-- ==== Defs.lean ====
def Pre_Kernel (m : (ℓ : Loc Cert.Kernel.nD Cert.Kernel.τ Cert.Kernel.sig) → Buf (Elt Bits) ℓ) : Prop :=
  True

def Pre_Kernel_consecutive [hPre_consecutive : Cert.Pre_consecutive.Facts] (m : (ℓ : Loc Cert.Kernel.nD Cert.Kernel.τ Cert.Kernel.sig) → Buf (Elt Bits) ℓ) : Prop :=
  ∀ c : Dev Cert.Kernel.nD,
    (Cert.Pre_consecutive.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_consecutive [hPre_consecutive : Cert.Pre_consecutive.Facts] (m : (ℓ : Loc Cert.KernelIdeal.nD Cert.KernelIdeal.τ Cert.KernelIdeal.sig) → Buf (Elt Ideal) ℓ) : Prop :=
  ∀ c : Dev Cert.KernelIdeal.nD,
    (Cert.Pre_consecutive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_consecutive [hPre_consecutive : Cert.Pre_consecutive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_consecutive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_consecutive : Cert.Pre_consecutive.Facts] (m : (ℓ : Loc Cert.Reference.nD Cert.Reference.τ Cert.Reference.sig) → Buf (Elt Bits) ℓ) : Prop :=
  ∀ c : Dev Cert.Reference.nD,
    (Cert.Pre_consecutive.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_consecutive [hKernel : Cert.Kernel.Facts] [hPre_consecutive : Cert.Pre_consecutive.Facts] : Prop :=
  ∀ (m : (ℓ : Loc Cert.Kernel.nD Cert.Kernel.τ Cert.Kernel.sig) → Buf (Elt Bits) ℓ) (g : Dev Cert.Kernel.nD → PrngReg), Pre_Kernel_consecutive m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_consecutive [hKernelIdeal : Cert.KernelIdeal.Facts] [hPre_consecutive : Cert.Pre_consecutive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_consecutive m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_consecutive [hReferenceIdeal : Cert.ReferenceIdeal.Facts] [hPre_consecutive : Cert.Pre_consecutive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_consecutive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_consecutive : Cert.Pre_consecutive.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_consecutive [hKernelIdeal : Cert.KernelIdeal.Facts] [hReferenceIdeal : Cert.ReferenceIdeal.Facts] [hPre_consecutive : Cert.Pre_consecutive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_consecutive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_consecutive [hKernel : Cert.Kernel.Facts] [hReference : Cert.Reference.Facts] [hPre_consecutive : Cert.Pre_consecutive.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_consecutive m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_consecutive : Cert.Pre_consecutive.Facts),
    quiescent_Kernel (hKernel := hKernel)
    ∧ quiescent_Kernel_pre_consecutive (hKernel := hKernel) (hPre_consecutive := hPre_consecutive)
    ∧ quiescent_KernelIdeal (hKernelIdeal := hKernelIdeal)
    ∧ quiescent_KernelIdeal_pre_consecutive (hKernelIdeal := hKernelIdeal) (hPre_consecutive := hPre_consecutive)
    ∧ quiescent_ReferenceIdeal (hReferenceIdeal := hReferenceIdeal)
    ∧ quiescent_ReferenceIdeal_pre_consecutive (hReferenceIdeal := hReferenceIdeal) (hPre_consecutive := hPre_consecutive)
    ∧ quiescent_Reference (hReference := hReference) (hPre_consecutive := hPre_consecutive)
    ∧ preserves_Kernel_KernelIdeal
    ∧ algebraic_KernelIdeal_ReferenceIdeal_pre_consecutive (hKernelIdeal := hKernelIdeal) (hReferenceIdeal := hReferenceIdeal) (hPre_consecutive := hPre_consecutive)
    ∧ bitexact_Kernel_Reference_pre_consecutive (hKernel := hKernel) (hReference := hReference) (hPre_consecutive := hPre_consecutive)
-- ==== Pre_consecutive.lean ====
abbrev S2x512 : Shape := ⟨2, ![2, 512]⟩
abbrev S66x128 : Shape := ⟨2, ![66, 128]⟩
abbrev S2x1 : Shape := ⟨2, ![2, 1]⟩
abbrev S512 : Shape := ⟨1, ![512]⟩
abbrev S1x512 : Shape := ⟨2, ![1, 512]⟩
abbrev S_ : Shape := ⟨0, ![]⟩

class Facts : Prop where
  slices_S2x512_S2x1_0_0 : S2x512.Slices ![0, 0] S2x1
  bcast_S512_S1x512_1 : S512.BroadcastsInDim S1x512 (![1] : Fin 1 → Fin S1x512.rank)
  bcast_S2x1_S2x512_0_1 : S2x1.BroadcastsInDim S2x512 (![0, 1] : Fin 2 → Fin S2x512.rank)
  bcast_S1x512_S2x512_0_1 : S1x512.BroadcastsInDim S2x512 (![0, 1] : Fin 2 → Fin S2x512.rank)
  reducesTo_S2x512_S_d0_1 : S2x512.ReducesTo [0, 1] S_
  h_S_ : 0 < S_.numel

variable [Facts]

def fn {F : FTy → Type} [FloatOps F] (main_arg0 : IVec S2x512 32) (main_arg1 : FVec F S66x128 .f32) : IVec S_ 1 :=
  let main_v0 : IVec S2x1 32 := (extractStridedSlice S2x1 ![0, 0] · slices_S2x512_S2x1_0_0) main_arg0
  let main_v1 : IVec S512 32 := iotaInDim S512 32 0
  let main_v2 : IVec S1x512 32 := broadcastInDim S1x512 ![1] bcast_S512_S1x512_1 main_v1
  let main_v3 : IVec S2x512 32 := broadcastInDim S2x512 ![0, 1] bcast_S2x1_S2x512_0_1 main_v0
  let main_v4 : IVec S2x512 32 := broadcastInDim S2x512 ![0, 1] bcast_S1x512_S2x512_0_1 main_v2
  let main_v5 : IVec S2x512 32 := addi main_v3 main_v4
  let main_v6 : IVec S2x512 1 := cmpi .eq main_arg0 main_v5
  let main_c : IVec S_ 1 := constantI S_ 1 1#1
  let main_v7 : IVec S_ 1 := (fun x v => Host.reduce IntOp.andi x v reducesTo_S2x512_S_d0_1 h_S_) main_v6 main_c
  main_v7
-- ==== Kernel.lean ====
abbrev S2x512 : Shape := ⟨2, ![2, 512]⟩
abbrev S66x128 : Shape := ⟨2, ![66, 128]⟩
abbrev S1024x128 : Shape := ⟨2, ![1024, 128]⟩
abbrev S1x128 : Shape := ⟨2, ![1, 128]⟩
abbrev S128 : Shape := ⟨1, ![128]⟩
abbrev S1024x512x128 : Shape := ⟨3, ![1024, 512, 128]⟩
abbrev S_ : Shape := ⟨0, ![]⟩
abbrev S1x512x128 : Shape := ⟨3, ![1, 512, 128]⟩
abbrev S512x128 : Shape := ⟨2, ![512, 128]⟩
abbrev S2x512x512x128 : Shape := ⟨4, ![2, 512, 512, 128]⟩

abbrev nBuf : Table → Nat
  | .hbm => 5
  | .local .tc .vmem => 2
  | .shared => 1
  | _ => 0

abbrev bufTy : (tb : Table) → Fin (nBuf tb) → BufTy
  | .hbm, ⟨0, _⟩ => ⟨S2x512, .i32⟩
  | .hbm, ⟨1, _⟩ => ⟨S66x128, .f32⟩
  | .hbm, ⟨2, _⟩ => ⟨S1024x128, .f32⟩
  | .hbm, ⟨3, _⟩ => ⟨S1024x512x128, .f32⟩
  | .hbm, ⟨4, _⟩ => ⟨S2x512x512x128, .f32⟩
  | .local .tc .vmem, ⟨0, _⟩ => ⟨S66x128, .f32⟩
  | .local .tc .vmem, ⟨1, _⟩ => ⟨S1024x128, .f32⟩
  | .shared, ⟨0, _⟩ => ⟨S1024x128, .f32⟩
  | _, _ => ⟨S2x512, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => true
  | ⟨1, _⟩ => true
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scs : Ref sig .scScalar := ⟨.hbm, 2, rfl⟩
abbrev main_v1_scs : Ref sig .scScalar := ⟨.hbm, 3, rfl⟩
abbrev cc0_stg0_0 : Ref sig .tc := ⟨.vmem, 0, rfl⟩
abbrev cc0_stg1_0 : Ref sig .tc := ⟨.vmem, 1, rfl⟩
abbrev cc1_scratch0 : Ref sig .scScalar := ⟨.shared, 0, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S66x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![2], ![false]⟩

def k1_off1 (i : grid1.Coords) (c0_i32_0 : BitVec 32) : Fin 3 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi v0 c0_i32
  let v2 : BitVec 32 := Scalar.addi v1 c0_i32_0
  let c0_i32_1 : BitVec 32 := 0#32
  let c0_i32_2 : BitVec 32 := 0#32
  ![v2.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S2x512 : Shape := ⟨2, ![2, 512]⟩
abbrev S66x128 : Shape := ⟨2, ![66, 128]⟩
abbrev S2x1x512 : Shape := ⟨3, ![2, 1, 512]⟩
abbrev S2x512x1 : Shape := ⟨3, ![2, 512, 1]⟩
abbrev S2x512x512 : Shape := ⟨3, ![2, 512, 512]⟩
abbrev S_ : Shape := ⟨0, ![]⟩
abbrev S2x512x512x1 : Shape := ⟨4, ![2, 512, 512, 1]⟩
abbrev S1 : Shape := ⟨1, ![1]⟩
abbrev S1x1x1x1 : Shape := ⟨4, ![1, 1, 1, 1]⟩
abbrev S2x512x512x128 : Shape := ⟨4, ![2, 512, 512, 128]⟩

abbrev nBuf : Space → Nat
  | .hbm => 44
  | .vmem => 0
  | .smem => 0
  | _ => 0

abbrev bufTy : (tb : Table) → Fin (tcTables nBuf tb) → BufTy
  | .hbm, ⟨0, _⟩ => ⟨S2x512, .i32⟩
  | .hbm, ⟨1, _⟩ => ⟨S66x128, .f32⟩
  | .hbm, ⟨2, _⟩ => ⟨S2x1x512, .i32⟩
  | .hbm, ⟨3, _⟩ => ⟨S2x512x1, .i32⟩
  | .hbm, ⟨4, _⟩ => ⟨S2x512x512, .i32⟩
  | .hbm, ⟨5, _⟩ => ⟨S2x512x512, .i32⟩
  | .hbm, ⟨6, _⟩ => ⟨S2x512x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2x512x512, .i32⟩
  | .hbm, ⟨11, _⟩ => ⟨S2x512x512, .i32⟩
  | .hbm, ⟨12, _⟩ => ⟨S_, .i32⟩
  | .hbm, ⟨13, _⟩ => ⟨S2x512x512, .i32⟩
  | .hbm, ⟨14, _⟩ => ⟨S2x512x512, .i32⟩
  | .hbm, ⟨15, _⟩ => ⟨S_, .i32⟩
  | .hbm, ⟨16, _⟩ => ⟨S2x512x512, .i32⟩
  | .hbm, ⟨17, _⟩ => ⟨S2x512x512, .i32⟩
  | .hbm, ⟨18, _⟩ => ⟨S_, .i32⟩
  | .hbm, ⟨19, _⟩ => ⟨S2x512x512, .i32⟩
  | .hbm, ⟨20, _⟩ => ⟨S2x512x512, .i32⟩
  | .hbm, ⟨21, _⟩ => ⟨S_, .i32⟩
  | .hbm, ⟨22, _⟩ => ⟨S2x512x512, .i32⟩
  | .hbm, ⟨23, _⟩ => ⟨S2x512x512, .i1⟩
  | .hbm, ⟨24, _⟩ => ⟨S_, .i32⟩
  | .hbm, ⟨25, _⟩ => ⟨S2x512x512, .i32⟩
  | .hbm, ⟨26, _⟩ => ⟨S2x512x512, .i32⟩
  | .hbm, ⟨27, _⟩ => ⟨S2x512x512, .i32⟩
  | .hbm, ⟨28, _⟩ => ⟨S2x512x512x1, .i32⟩
  | .hbm, ⟨29, _⟩ => ⟨S1, .i32⟩
  | .hbm, ⟨30, _⟩ => ⟨S_, .i32⟩
  | .hbm, ⟨31, _⟩ => ⟨S2x512x512x1, .i32⟩
  | .hbm, ⟨32, _⟩ => ⟨S2x512x512x1, .i1⟩
  | .hbm, ⟨33, _⟩ => ⟨S1x1x1x1, .i32⟩
  | .hbm, ⟨34, _⟩ => ⟨S2x512x512x1, .i32⟩
  | .hbm, ⟨35, _⟩ => ⟨S2x512x512x1, .i1⟩
  | .hbm, ⟨36, _⟩ => ⟨S2x512x512x1, .i1⟩
  | .hbm, ⟨37, _⟩ => ⟨S_, .i1⟩
  | .hbm, ⟨38, _⟩ => ⟨S2x512x512, .i1⟩
  | .hbm, ⟨39, _⟩ => ⟨S2x512x512x128, .f32⟩
  | .hbm, ⟨40, _⟩ => ⟨S2x512x512x128, .i1⟩
  | .hbm, ⟨41, _⟩ => ⟨S_, .f32⟩
  | .hbm, ⟨42, _⟩ => ⟨S2x512x512x128, .f32⟩
  | .hbm, ⟨43, _⟩ => ⟨S2x512x512x128, .f32⟩
  | _, _ => ⟨S2x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_cst : Ref sig .tc := ⟨.hbm, 41, rfl⟩
abbrev main_call1_v15 : Ref sig .tc := ⟨.hbm, 42, rfl⟩
abbrev main_v10 : Ref sig .tc := ⟨.hbm, 43, rfl⟩

abbrev nD : Nat := 1
abbrev τ : Topo := Topo.v7x

variable {F : FTy → Type} [FloatOps F]
-- ==== Proof.Canon.lean ====
/- The sequencer's kernel as two loops: the band staged into the shared scratch, 512 copies issued, 512 waits. -/
module

public import proofs.«01_k».proof.Proof.Gen.KernelIdeal

@[expose] public section

noncomputable section

namespace Cert.Proof.Seq

open Cert.KernelIdeal Cert.KernelIdeal.Gen
open Idealize.ShloMosaic Idealize.SL.Sem

variable {F : FTy → Type} [FloatOps F]

/-- The windows `[511 - k, 511 - k + 512)` of the band lie inside its 1024 rows. -/
theorem src_inb (k : Fin 512) : ∀ a, (![511 - k.val, 0] : Fin 2 → Nat) a + S512x128.size a ≤ S1024x128.size a := by
  intro a
  match a with
  | 0 => show 511 - k.val + 512 ≤ 1024; omega
  | 1 => show 0 + 128 ≤ 128; omega

/-- Copy `k`'s source: rows `[511 - k, 511 - k + 512)` of the staged band. -/
abbrev srcM (arg3 : Memref sig .scScalar .shared S1024x128 .f32) (k : Fin 512) : Memref sig .scScalar .shared S512x128 .f32 :=
  arg3.slice (Rect.unit (s := S1024x128) ![511 - k.val, 0] S512x128.size (src_inb k)) (fun _ => rfl)

/-- Copy `k`'s destination: row block `512 c + k` of the result. -/
abbrev dstM (i : grid1.Coords) (arg2 : Memref sig .scScalar .hbm S1024x512x128 .f32) (k : Fin 512) : Memref sig .scScalar .hbm S512x128 .f32 :=
  (arg2.slice (Rect.unit (s := S1024x512x128) (k1_off1 i (BitVec.ofNat 32 k.val)) S1x512x128.size (k1_off1_inb i k)) (fun _ => rfl)).squeeze S512x128 squeezes_S1x512x128_S512x128

/-- The effect `f k` for each `k` of `e - n, …, e - 1` in order, then `q`. -/
def loop {E : Type → Type} {α : Type} (f : Fin 512 → E PUnit) (e : Nat) (q : Prog E α) : Nat → Prog E α
  | 0 => q
  | n + 1 => .op (f (Fin.ofNat 512 (e - (n + 1)))) fun _ => loop f e q n

/-- Issue copy `k`. -/
abbrev issue (i : grid1.Coords) (arg2 : Memref sig .scScalar .hbm S1024x512x128 .f32) (arg3 : Memref sig .scScalar .shared S1024x128 .f32) (arg5 : DmaSems sig S_) (k : Fin 512) :
    TpuEff nD τ sig (Elt F) Λ₀ (.scScalar ((i 0).castLE hcore1)) PUnit :=
  .enqueueDma (srcM arg3 k) (.here (dstM i arg2 k)) (.dma arg5.sem) (View.wordExact_bits rfl) ((View.wordExact_bits rfl).reshape _ _) ⟨Or.inl rfl, trivial⟩

/-- Wait for copy `k`'s units. -/
abbrev await (i : grid1.Coords) (arg2 : Memref sig .scScalar .hbm S1024x512x128 .f32) (arg3 : Memref sig .scScalar .shared S1024x128 .f32) (arg5 : DmaSems sig S_) (k : Fin 512) :
    TpuEff nD τ sig (Elt F) Λ₀ (.scScalar ((i 0).castLE hcore1)) PUnit :=
  .waitDma2 arg5.sem (srcM arg3 k) (dstM i arg2 k) (View.wordExact_bits rfl) ((View.wordExact_bits rfl).reshape _ _)

variable (i : grid1.Coords) (arg1 : Memref sig .scScalar .hbm S1024x128 .f32) (harg1 : arg1.IsWhole) (arg2 : Memref sig .scScalar .hbm S1024x512x128 .f32) (harg2 : arg2.IsWhole)
  (arg3 : Memref sig .scScalar .shared S1024x128 .f32) (harg3 : arg3.IsWhole) (arg4 arg5 : DmaSems sig S_)

/-- The band into the shared scratch: one copy, issued and waited for; then `q`. -/
abbrev stage {α : Type} (q : Prog (TpuEff nD τ sig (Elt F) Λ₀ (.scScalar ((i 0).castLE hcore1))) α) : Prog (TpuEff nD τ sig (Elt F) Λ₀ (.scScalar ((i 0).castLE hcore1))) α :=
  .op (.enqueueDma arg1 (.here arg3) (.dma arg4.sem) harg1.wordExact harg3.wordExact ⟨Or.inl rfl, trivial⟩) fun _ =>
    .op (.waitDma2 arg4.sem arg1 arg3 harg1.wordExact harg3.wordExact) fun _ => q

/-- What follows a run of effects may be bound after it. -/
theorem loop_bind {E : Type → Type} {α β : Type} (f : Fin 512 → E PUnit) (e : Nat) (q : Prog E α) (r : α → Prog E β) :
    ∀ n, (loop f e q n >>= r) = loop f e (q >>= r) n
  | 0 => rfl
  | n + 1 => by rw [loop, Prog.bind_op]; exact congrArg _ (funext fun _ => loop_bind f e q r n)

/-- Two consecutive runs of effects are one. -/
theorem loop_append {E : Type → Type} {α : Type} (f : Fin 512 → E PUnit) (e n : Nat) (q : Prog E α) :
    ∀ m, loop f (e - n) (loop f e q n) m = loop f e q (m + n)
  | 0 => by rw [Nat.zero_add]; rfl
  | m + 1 => by
    rw [show m + 1 + n = (m + n) + 1 by omega, loop, loop, loop_append f e n q m, Nat.sub_sub, Nat.add_comm n (m + 1), show m + 1 + n = m + n + 1 by omega]

set_option maxRecDepth 100000 in
/-- The first window of the kernel: the staging and the first 256 issues. -/
theorem part188_eq : k1_part188 (F := F) i arg1 harg1 arg2 harg2 arg3 harg3 arg4 arg5
    = stage (F := F) i arg1 harg1 arg3 harg3 arg4 (loop (issue i arg2 arg3 arg5) 256 (.ret (BitVec.ofNat 32 (i 0).val)) 256) := rfl

set_option maxRecDepth 100000 in
/-- The second window: the other 256 issues and the first three waits. -/
theorem part189_eq (w : BitVec 32) : k1_part189 (F := F) i arg1 harg1 arg2 harg2 arg3 harg3 arg4 arg5 w
    = loop (issue i arg2 arg3 arg5) 512 (loop (await i arg2 arg3 arg5) 3 (.ret PUnit.unit) 3) 256 := rfl

set_option maxRecDepth 100000 in
/-- The third window: the next 450 waits. -/
theorem part190_eq : k1_part190 (F := F) i arg1 harg1 arg2 harg2 arg3 harg3 arg4 arg5
    = loop (await (F := F) i arg2 arg3 arg5) 453 (.ret PUnit.unit) 450 := rfl

set_option maxRecDepth 100000 in
/-- The kernel after its third window is the last 59 waits. -/
theorem tail_eq : (do
    k1_part181 (F := F) i arg1 harg1 arg2 harg2 arg3 harg3 arg4 arg5
    k1_part182 (F := F) i arg1 harg1 arg2 harg2 arg3 harg3 arg4 arg5
    k1_part183 (F := F) i arg1 harg1 arg2 harg2 arg3 harg3 arg4 arg5
    k1_part184 (F := F) i arg1 harg1 arg2 harg2 arg3 harg3 arg4 arg5
    k1_part185 (F := F) i arg1 harg1 arg2 harg2 arg3 harg3 arg4 arg5
    k1_part186 (F := F) i arg1 harg1 arg2 harg2 arg3 harg3 arg4 arg5
    k1_part187 (F := F) i arg1 harg1 arg2 harg2 arg3 harg3 arg4 arg5
    loop (await (F := F) i arg2 arg3 arg5) 512 (.ret PUnit.unit) 6)
    = loop (await (F := F) i arg2 arg3 arg5) 512 (.ret PUnit.unit) 59 := rfl

/-- The kernel over its windows. -/
theorem body_eq_windows : cc1__scs_body (F := F) i arg1 harg1 arg2 harg2 arg3 harg3 arg4 arg5
    = (k1_part188 (F := F) i arg1 harg1 arg2 harg2 arg3 harg3 arg4 arg5 >>= fun w =>
        k1_part189 (F := F) i arg1 harg1 arg2 harg2 arg3 harg3 arg4 arg5 w >>= fun _ =>
        k1_part190 (F := F) i arg1 harg1 arg2 harg2 arg3 harg3 arg4 arg5 >>= fun _ =>
        (do
    k1_part181 (F := F) i arg1 harg1 arg2 harg2 arg3 harg3 arg4 arg5
    k1_part182 (F := F) i arg1 harg1 arg2 harg2 arg3 harg3 arg4 arg5
    k1_part183 (F := F) i arg1 harg1 arg2 harg2 arg3 harg3 arg4 arg5
    k1_part184 (F := F) i arg1 harg1 arg2 harg2 arg3 harg3 arg4 arg5
    k1_part185 (F := F) i arg1 harg1 arg2 harg2 arg3 harg3 arg4 arg5
    k1_part186 (F := F) i arg1 harg1 arg2 harg2 arg3 harg3 arg4 arg5
    k1_part187 (F := F) i arg1 harg1 arg2 harg2 arg3 harg3 arg4 arg5
    loop (await (F := F) i arg2 arg3 arg5) 512 (.ret PUnit.unit) 6)) := rfl

/-- The sequencer's kernel: the band staged, 512 copies issued, 512 waits. -/
theorem body_eq : cc1__scs_body (F := F) i arg1 harg1 arg2 harg2 arg3 harg3 arg4 arg5
    = stage (F := F) i arg1 harg1 arg3 harg3 arg4
        (loop (issue i arg2 arg3 arg5) 512 (loop (await i arg2 arg3 arg5) 512 (.ret PUnit.unit) 512) 512) := by
  rw [body_eq_windows, tail_eq]
  simp only [part188_eq, part189_eq, part190_eq, loop_bind, Prog.bind_op, Prog.bind_ret]
  rw [← loop_append (issue (F := F) i arg2 arg3 arg5) 512 256 _ 256, ← loop_append (await (F := F) i arg2 arg3 arg5) 512 59 _ 453,
    ← loop_append (await (F := F) i arg2 arg3 arg5) (512 - 59) 450 _ 3]

end Cert.Proof.Seq

end
-- ==== Proof.Setup.lean ====
/-
  The program as the launch theorem sees it, the resource algebra, and where the sequencers' copies read and write:
  core `c`'s copy `k` reads the band's rows `[511 - k, 511 - k + 512)` and writes row block `512 c + k` of the result, so the
  result's row block `r` holds the band's rows from `511 - r % 512` on (`outV`).
-/
module

public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.ValueIdxCore
public import proofs.«01_k».proof.Proof.Gen.KernelIdeal
public import proofs.«01_k».proof.Proof.Canon

@[expose] public section

noncomputable section

namespace Cert.Proof.Seq

open Cert.KernelIdeal Cert.KernelIdeal.Gen

open Idealize.ShloMosaic
open Idealize.ShloMosaic.ValueIdx (ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels, the pipeline's included. -/
abbrev ΛP : Labels := Pipeline.Sig Λ₀ (Fin 1) fun p => (pcfgs (F := F) p).Adm
/-- The SparseCore launch. -/
abbrev K : SparseCore.Cfg τ sig (ΛP (F := F)) 1 := sc (F := F)
/-- The procedures beneath the launch. -/
abbrev D [FloatOps F] : Defs nD τ sig (Elt F) (ΛP (F := F)) := Pipeline.defs pcfgs defs₀
/-- No loop needs a variant. -/
abbrev 𝒱₀ : Variants := Variants.none
/-- The same beneath the launch. -/
abbrev 𝒱 : Variants := 𝒱₀.lift
/-- Its one value. -/
abbrev v₀ : 𝒱.V := Sum.inl none

/-- The handshakes' semaphores are distinct and none is the body's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

/-- The handshakes' ghost state. -/
abbrev UH : Type := URounds (GSem nD τ sig) ℕ
/-- The pipeline's ghost state. -/
abbrev UP : Type := URounds (GSem nD τ sig) Unit
/-- All the ghost state: the handshakes', the pipeline's and the counters'. -/
abbrev UU : Type := UH × (UP × Counters)

local notation "𝕄" => MT nD τ sig (HIx 1) (Elt F) ℕ UU ℕ

/-- The handshakes' rounds: the left factor; -/
abbrev EH : Emb UH (MT nD τ sig (HIx 1) (Elt F) ℕ UU ℕ) := embL
/-- the pipeline's: the left of the right; the transfers' counters are found by instance in what is left. -/
abbrev EP : Emb UP (MT nD τ sig (HIx 1) (Elt F) ℕ UU ℕ) := (Emb.inl : Emb UP (UP × Counters)).trans (embR (A := UH))

/-- The pipeline's ghost state lies in the program's own. -/
instance EP_landsIn : (EP (F := F)).LandsIn (upEmb : UEmb _ (MT nD τ sig (HIx 1) (Elt F) ℕ UU ℕ)) := by unfold EP; infer_instance

/-! ## The arrays and the sequencers' buffers -/

local notation "bW" => (Memref.whole Cert.KernelIdeal.main_v0_scs : Memref Cert.KernelIdeal.sig Kind.scScalar Space.hbm Cert.KernelIdeal.S1024x128 EltTy.f32)
local notation "oW" => (Memref.whole Cert.KernelIdeal.main_v1_scs : Memref Cert.KernelIdeal.sig Kind.scScalar Space.hbm Cert.KernelIdeal.S1024x512x128 EltTy.f32)
local notation "shW" => (Memref.whole Cert.KernelIdeal.cc1_scratch0 : Memref Cert.KernelIdeal.sig Kind.scScalar Space.shared Cert.KernelIdeal.S1024x128 EltTy.f32)

/-- The band and the call's result, as the TensorCore names them. -/
abbrev bLoc (d : Dev nD) : Loc nD τ sig := (SparseCore.T d).loc main_v0
/-- The SparseCore call's output. -/
abbrev oLoc (d : Dev nD) : Loc nD τ sig := (SparseCore.T d).loc main_v1
/-- SparseCore `c`'s shared scratch, the staged band: dealt to its sequencer. -/
abbrev shLoc (d : Dev nD) (c : Fin τ.nSC) : Loc nD τ sig := (S d c).loc cc1_scratch0

/-- The SparseCore a grid point names. -/
abbrev coreOf (i : grid1.Coords) : Fin τ.nSC := (i 0).castLE hcore1

/-! ## What the copies write -/

/-- Row block `r` of the result: the band's rows `511 - r % 512, …, 511 - r % 512 + 511`. -/
def outV (bv : S1024x128.Idx → Elt F .f32) : S1024x512x128.Idx → Elt F .f32 := fun x =>
  bv (ix2 (n0 := 1024) (n1 := 128) ⟨511 - (x 0).val % 512 + (x 1).val, by have := (x 1).isLt; change (x 1).val < 512 at this; omega⟩ (x 2))

/-- The elements copy `k` reads, -/
abbrev srcSet (k : Fin 512) : Finset S1024x128.Idx := (Rect.unit (s := S1024x128) ![511 - k.val, 0] S512x128.size (src_inb k)).set
/-- and those it writes. -/
abbrev dstSet (i : grid1.Coords) (k : Fin 512) : Finset S1024x512x128.Idx :=
  (Rect.unit (s := S1024x512x128) (k1_off1 i (BitVec.ofNat 32 k.val)) S1x512x128.size (k1_off1_inb i k)).set

/-- The entries of copy k's source. -/
theorem src_set_eq (k : Fin 512) : (srcM shW k).view.set = srcSet k := View.set_slice_whole _ _
/-- The entries of copy k's destination. -/
theorem dst_set_eq (i : grid1.Coords) (k : Fin 512) : (dstM i oW k).view.set = dstSet i k := by
  simp only [dstM, Memref.view_squeeze, View.set_reshape]; exact View.set_slice_whole _ _

/-- Copy `k` of core `c` writes row block `512 c + k`. -/
theorem off1_eq : ∀ (i : grid1.Coords) (k : Fin 512), k1_off1 i (BitVec.ofNat 32 k.val) = ![512 * (i 0).val + k.val, 0, 0] := by
  intro i k
  have hi : (i 0).val < 2 := (i 0).isLt
  have hk := k.isLt
  funext a
  match a with
  | 0 =>
    show (IntOp.addi (IntOp.addi (IntOp.muli (BitVec.ofNat 32 (i 0).val) 512#32) 0#32) (BitVec.ofNat 32 k.val)).toNat = 512 * (i 0).val + k.val
    simp only [IntOp.addi, IntOp.muli, BitVec.toNat_add, BitVec.toNat_mul, BitVec.toNat_ofNat]
    omega
  | 1 => rfl
  | 2 => rfl

/-- Copy k of core c writes row 512·c + k of the output. -/
theorem mem_dstSet (i : grid1.Coords) (k : Fin 512) (x : S1024x512x128.Idx) : x ∈ dstSet i k ↔ (x 0).val = 512 * (i 0).val + k.val := by
  unfold dstSet
  rw [Rect.mem_set_unit]
  simp only [off1_eq]
  constructor
  · intro h
    have h0 := h 0
    change 512 * (i 0).val + k.val ≤ (x 0).val ∧ (x 0).val < 512 * (i 0).val + k.val + 1 at h0
    omega
  · intro h a
    match a with
    | 0 => show 512 * (i 0).val + k.val ≤ (x 0).val ∧ (x 0).val < 512 * (i 0).val + k.val + 1; omega
    | 1 => exact ⟨Nat.zero_le _, (Nat.zero_add _).symm ▸ (x 1).isLt⟩
    | 2 => exact ⟨Nat.zero_le _, (Nat.zero_add _).symm ▸ (x 2).isLt⟩

/-- Two copies of a core write apart. -/
theorem dst_disjoint (i : grid1.Coords) : ∀ k ∈ (Finset.univ : Finset (Fin 512)), ∀ k' ∈ (Finset.univ : Finset (Fin 512)), k ≠ k' → Disjoint (dstSet i k) (dstSet i k') := by
  intro k _ k' _ hne
  refine Finset.disjoint_left.mpr fun x hx hx' => hne (Fin.ext ?_)
  rw [mem_dstSet] at hx hx'; omega

/-- The rows SparseCore `c` writes: its 512 row blocks. -/
def rows (c : Nat) : Finset S1024x512x128.Idx := Finset.univ.filter fun x => (x 0).val / 512 = c

/-- The 512 destinations of a core make up its half of the output. -/
theorem rows_cover (i : grid1.Coords) : Finset.univ.biUnion (dstSet i) = rows (i 0).val := by
  ext x
  simp only [Finset.mem_biUnion, Finset.mem_univ, true_and, mem_dstSet, rows, Finset.mem_filter]
  constructor
  · rintro ⟨k, hk⟩; have := k.isLt; omega
  · intro h; exact ⟨⟨(x 0).val % 512, Nat.mod_lt _ (by decide)⟩, by show _ = 512 * (i 0).val + (x 0).val % 512; omega⟩

/-- The two cores write apart, and between them every row block. -/
theorem rows_disjoint : Disjoint (rows 0) (rows 1) := by
  refine Finset.disjoint_left.mpr fun x hx hx' => ?_
  simp only [rows, Finset.mem_filter] at hx hx'
  have h0 := hx.2; have h1 := hx'.2
  omega
/-- The two halves make up the output. -/
theorem rows_union : rows 0 ∪ rows 1 = Finset.univ := by
  ext x
  have hx : (x 0).val < 1024 := (x 0).isLt
  simp only [rows, Finset.mem_union, Finset.mem_filter, Finset.mem_univ, true_and, iff_true]
  show (x 0).val / 512 = 0 ∨ (x 0).val / 512 = 1
  omega

/-- Where copy `k` writes its element `y`, and where it reads it. -/
theorem dst_emb (i : grid1.Coords) (k : Fin 512) (y : S512x128.Idx) (a : Fin 3) :
    (((dstM i oW k).view.emb y : S1024x512x128.Idx) a).val = (![512 * (i 0).val + k.val, (y 0).val, (y 1).val] : Fin 3 → Nat) a := by
  have h : ((dstM i oW k).view.emb y : S1024x512x128.Idx)
      = (Rect.unit (s := S1024x512x128) (k1_off1 i (BitVec.ofNat 32 k.val)) S1x512x128.size (k1_off1_inb i k)).emb
          (Fin.cons ⟨0, Nat.one_pos⟩ y) :=
    congrArg (Rect.unit (s := S1024x512x128) (k1_off1 i (BitVec.ofNat 32 k.val)) S1x512x128.size (k1_off1_inb i k)).emb
      (Shape.reshapeEquiv_cons_one squeezes_S1x512x128_S512x128.numel_eq y)
  rw [h, Rect.emb_apply]
  have ho := congrFun (off1_eq i k) a
  match a with
  | 0 => show k1_off1 i (BitVec.ofNat 32 k.val) 0 + 1 * 0 = 512 * (i 0).val + k.val; rw [ho]; rfl
  | 1 => show k1_off1 i (BitVec.ofNat 32 k.val) 1 + 1 * (y 0).val = (y 0).val; rw [ho]; show 0 + 1 * (y 0).val = (y 0).val; omega
  | 2 => show k1_off1 i (BitVec.ofNat 32 k.val) 2 + 1 * (y 1).val = (y 1).val; rw [ho]; show 0 + 1 * (y 1).val = (y 1).val; omega
/-- Entry y of copy k's window is entry (511 − k + y₀, y₁) of the band. -/
theorem src_emb (k : Fin 512) (y : S512x128.Idx) (a : Fin 2) :
    (((srcM shW k).view.emb y : S1024x128.Idx) a).val = (![511 - k.val + (y 0).val, (y 1).val] : Fin 2 → Nat) a := by
  have h : ((srcM shW k).view.emb y : S1024x128.Idx) = (Rect.unit (s := S1024x128) ![511 - k.val, 0] S512x128.size (src_inb k)).emb y := rfl
  rw [h, Rect.emb_apply]
  match a with
  | 0 => show 511 - k.val + 1 * (y 0).val = 511 - k.val + (y 0).val; omega
  | 1 => show 0 + 1 * (y 1).val = (y 1).val; omega

/-- Copy `k` leaves in the elements it writes what `outV` says. -/
theorem copy_val (i : grid1.Coords) (k : Fin 512) (bv : S1024x128.Idx → Elt F .f32) (fo : S1024x512x128.Idx → Elt F .f32) :
    ∀ x ∈ dstSet i k, (dstM i oW k).view.write (Elt F) fo ((srcM shW k).view.read (Elt F) bv) Finset.univ x = outV bv x := by
  intro x hx
  have hx' : x ∈ (dstM i oW k).view.set := by rw [dst_set_eq]; exact hx
  obtain ⟨y, -, rfl⟩ := Finset.mem_map.mp hx'
  refine (View.write_emb_of_mem (v := (dstM i oW k).view) (Val := Elt F) fo _ (Finset.mem_univ y)).trans ?_
  rw [View.read_apply]
  have h0 := dst_emb i k y 0; have h1 := dst_emb i k y 1; have h2 := dst_emb i k y 2
  have g0 := src_emb k y 0; have g1 := src_emb k y 1
  change _ = 512 * (i 0).val + k.val at h0
  change _ = (y 0).val at h1
  change _ = (y 1).val at h2
  change _ = 511 - k.val + (y 0).val at g0
  change _ = (y 1).val at g1
  have hk := k.isLt
  show bv ((srcM shW k).view.emb y) = outV bv ((dstM i oW k).view.emb y)
  unfold outV
  refine congrArg bv (funext fun a => Fin.ext ?_)
  match a with
  | 0 => rw [g0]; show _ = 511 - _ % 512 + _; rw [h0, h1]; omega
  | 1 => rw [g1]; exact h2.symm

end Cert.Proof.Seq

end
-- ==== Proof.SeqRun.lean ====
/-
  The sequencer's run: the band staged into the shared scratch by one copy, then 512 copies out of it all issued on one
  semaphore before any is waited for (`Lib/Batch.lean`), then 512 waits, the last of which hands every destination back.
  The staged band is read by all 512 copies at once, so it is dealt into 512 read shares, one per copy.
-/
module

public import proofs.«01_k».proof.Proof.Setup

@[expose] public section

noncomputable section

namespace Cert.Proof.Seq

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "bW" => (Memref.whole Cert.KernelIdeal.main_v0_scs : Memref Cert.KernelIdeal.sig Kind.scScalar Space.hbm Cert.KernelIdeal.S1024x128 EltTy.f32)
local notation "oW" => (Memref.whole Cert.KernelIdeal.main_v1_scs : Memref Cert.KernelIdeal.sig Kind.scScalar Space.hbm Cert.KernelIdeal.S1024x512x128 EltTy.f32)
local notation "shW" => (Memref.whole Cert.KernelIdeal.cc1_scratch0 : Memref Cert.KernelIdeal.sig Kind.scScalar Space.shared Cert.KernelIdeal.S1024x128 EltTy.f32)

/-- The transfers' counters, in the algebra. -/
abbrev EC : UEmb Counters (MT nD τ sig (HIx 1) (Elt F) ℕ UU ℕ) := countersEmb

variable [FloatOps F]
variable (d : Dev nD) (i : grid1.Coords) (bv : S1024x128.Idx → Elt F .f32) (fo : S1024x512x128.Idx → Elt F .f32)

/-- The sequencer's thread. -/
abbrev thr : Thread nD τ := S d (coreOf i)

/-- A copy's credit. -/
abbrev N : ℕ := Ref.dmaCredit main_v1_scs S512x128 .f32
/-- A copy of a window counts something. -/
theorem N_pos : 0 < N := sig.dmaCredit_pos _ _ _ S512x128 .f32 (by decide)

/-- Copy `k`'s read share of the staged band, over the elements it reads; -/
abbrev srcP (k : Fin 512) : sProp 𝕄 := (srcM shW k).view.loc (thr d i) ↦[(srcM shW k).view.set]{shareTok fullShare 512 k} bv
/-- and the elements it writes, at `f`. -/
abbrev dstP (f : S1024x512x128.Idx → Elt F .f32) (k : Fin 512) : sProp 𝕄 := (dstM i oW k).view.loc (thr d i) ↦[(dstM i oW k).view.set]{fullShare} f

/-- What copy `k` delivers: the elements it writes at the result's value, its read share back. -/
abbrev Dl (k : Fin 512) : sProp 𝕄 := iprop(dstP d i (outV bv) k ∗ srcP d i bv k)

/-- The copies' batch, `j` issued and `u` units waited for. -/
abbrev Bat (j u : ℕ) : sProp 𝕄 := Batch (EC (F := F)) (thr d i) (.dma cc1_scratch2.sem) (none : HIx 1) N (Dl (F := F) d i bv) j u

/-- The weakest precondition of a program of the sequencer's. -/
abbrev WP {α : Type} (p : Prog (TpuEff nD τ sig (Elt F) Λ₀ (.scScalar (coreOf i))) α) (Φ : α → sProp 𝕄) : sProp 𝕄 :=
  wp frame (wpE (defs₀ (F := F)) 𝒱₀ (thr d i) none) Set.univ p Φ

variable {α : Type} (q : Prog (TpuEff nD τ sig (Elt F) Λ₀ (.scScalar (coreOf i))) α)

/-- A copy's units are the number fixed for all, at its issue -/
theorem amount_eq (k : Fin 512) : (dstM i oW k).view.amount (.dma cc1_scratch2.sem) = N := rfl
/-- and at its wait. -/
theorem credit_eq (k : Fin 512) : (dstM i oW k).view.dmaCredit = N := rfl

/-- A copy's delivery is what the batch says it delivers. -/
theorem deliver (k : Fin 512) :
    iprop(((dstM i oW k).view.loc (thr d i) ↦[(dstM i oW k).view.set]{fullShare}
        ((dstM i oW k).view.write (Elt F) fo (ReadAs.same.apply ((srcM shW k).view.read (Elt F) bv)) Finset.univ))
      ∗ ((srcM shW k).view.loc (thr d i) ↦[(srcM shW k).view.set]{shareTok fullShare 512 k} bv)) ⊢ (Dl d i bv ⟨k.val, k.isLt⟩ : sProp 𝕄) := by
  refine sep_mono_left (Entails.of_eq (pointsTo_congr fun x hx => copy_val i k bv fo x ?_))
  rw [← dst_set_eq]; exact hx

/-- The issue of copy `k`, the first `k` issued and none waited for. -/
theorem issue_step (Q : α → sProp (MT nD τ sig (HIx 1) (Elt F) ℕ UU ℕ)) (k : Fin 512) :
    (iprop(srcP d i bv k ∗ dstP d i fo k ∗ Bat d i bv k.val 0 ∗ (Bat d i bv (k.val + 1) 0 -∗ WP d i q Q)) : sProp 𝕄)
      ⊢ WP d i (.op (issue i oW shW cc1_scratch2 k) fun _ => q) Q := by
  iintro ⟨Hs, Hd, HB, Hk⟩
  iapply (wp_dmaBatch (EC (F := F)) 𝒱₀ (thr d i) none (src := srcM shW k) (via := ReadAs.same) (dst := dstM i oW k)
    (q := shareTok fullShare 512 k) (fs := bv) (fd := fo) (Sd := (dstM i oW k).view.set) (D := Dl d i bv)
    (none : HIx 1) N (amount_eq i k) (Finset.Subset.refl _) k.isLt (Nat.zero_le (k.val * N)) (deliver d i bv fo k)) $$ [Hs Hd HB]
  · isplitl [Hs]; · iexact Hs
    isplitl [Hd]; · iexact Hd
    iexact HB
  iexact Hk

/-- The last `n` issues: each takes its copy's read share and the elements it writes. -/
theorem issues (Q : α → sProp (MT nD τ sig (HIx 1) (Elt F) ℕ UU ℕ)) (e n : ℕ) (hn : e + n = 512) :
    (iprop(bigSep (pending (n := 512) e) (fun k => iprop(srcP d i bv k ∗ dstP d i fo k)) ∗ Bat d i bv e 0
        ∗ (Bat d i bv 512 0 -∗ WP d i q Q)) : sProp 𝕄)
      ⊢ WP d i (loop (issue i oW shW cc1_scratch2) 512 q n) Q := by
  induction n generalizing e with
  | zero =>
    obtain rfl : e = 512 := hn
    iintro ⟨-, HB, Hk⟩
    iapply Hk; iexact HB
  | succ n ih =>
    have hj : e < 512 := by omega
    have hk : Fin.ofNat 512 (512 - (n + 1)) = ⟨e, hj⟩ := Fin.ext ((Nat.mod_eq_of_lt (by omega)).trans (by show 512 - (n + 1) = e; omega))
    rw [loop, hk, bigSep_pending_step _ _ hj]
    iintro ⟨⟨⟨Hs, Hd⟩, HR⟩, HB, Hk⟩
    iapply (issue_step d i bv fo _ Q ⟨e, hj⟩)
    isplitl [Hs]; · iexact Hs
    isplitl [Hd]; · iexact Hd
    isplitl [HB]; · iexact HB
    iintro HB
    iapply (ih (e + 1) (by omega))
    isplitl [HR]; · iexact HR
    isplitl [HB]; · iexact HB
    iexact Hk

/-- A wait that is not the last. -/
theorem wait_step (Q : α → sProp (MT nD τ sig (HIx 1) (Elt F) ℕ UU ℕ)) (O : CellTallies nD τ sig (HIx 1)) (W : Waits sig (HIx 1)) (k : Fin 512) (e : ℕ) (he : e + 1 < 512) :
    (iprop(MayWait (thr d i) (.dma cc1_scratch2.sem) (none : HIx 1) O ∗ Bat d i bv 512 (e * N) ∗ owes (thr d i) O W
        ∗ (iprop(Bat d i bv 512 ((e + 1) * N) ∗ owes (thr d i) O (insert (SemLoc.dma cc1_scratch2.sem, none) W)) -∗ WP d i q Q)) : sProp 𝕄)
      ⊢ WP d i (.op (await i oW shW cc1_scratch2 k) fun _ => q) Q := by
  have hu : e * N + N < N * 512 := by
    rw [← Nat.succ_mul, Nat.mul_comm N]
    exact Nat.mul_lt_mul_of_pos_right he N_pos
  rw [Nat.succ_mul]
  iintro ⟨Hm, HB, HO, Hk⟩
  iapply (wp_waitBatchO (EC (F := F)) 𝒱₀ (thr d i) none (srcw := srcM shW k) (dstw := dstM i oW k) (D := Dl d i bv) (none : HIx 1) (N := N) (credit_eq i k) hu) $$ [HB HO Hm]
  · isplitl [HB]; · iexact HB
    isplitl [HO]; · iexact HO
    iexact Hm
  iexact Hk

/-- The last wait: every copy's delivery, and the semaphore back at zero. -/
theorem wait_last (Q : α → sProp (MT nD τ sig (HIx 1) (Elt F) ℕ UU ℕ)) (O : CellTallies nD τ sig (HIx 1)) (W : Waits sig (HIx 1)) (k : Fin 512) :
    (iprop(MayWait (thr d i) (.dma cc1_scratch2.sem) (none : HIx 1) O ∗ Bat d i bv 512 (511 * N) ∗ owes (thr d i) O W
        ∗ (iprop(bigSep Finset.univ (Dl d i bv) ∗ semVal (thr d i, .dma cc1_scratch2.sem) 0
            ∗ owes (thr d i) O (insert (SemLoc.dma cc1_scratch2.sem, none) W)) -∗ WP d i q Q)) : sProp 𝕄)
      ⊢ WP d i (.op (await i oW shW cc1_scratch2 k) fun _ => q) Q := by
  have hu : 511 * N + N = N * 512 := by rw [Nat.mul_comm N]; exact (Nat.succ_mul 511 N).symm
  iintro ⟨Hm, HB, HO, Hk⟩
  iapply (wp_waitBatchLastO (EC (F := F)) 𝒱₀ (thr d i) none (srcw := srcM shW k) (dstw := dstM i oW k) (D := Dl d i bv) (none : HIx 1) (N := N) (credit_eq i k) N_pos hu) $$ [HB HO Hm]
  · isplitl [HB]; · iexact HB
    isplitl [HO]; · iexact HO
    iexact Hm
  iexact Hk

/-- The last `n + 1` waits. -/
theorem waits (Q : α → sProp (MT nD τ sig (HIx 1) (Elt F) ℕ UU ℕ)) (O : CellTallies nD τ sig (HIx 1)) (W : Waits sig (HIx 1)) (e n : ℕ) (hn : e + n = 511) :
    (iprop(MayWait (thr d i) (.dma cc1_scratch2.sem) (none : HIx 1) O ∗ Bat d i bv 512 (e * N) ∗ owes (thr d i) O W
        ∗ (iprop(bigSep Finset.univ (Dl d i bv) ∗ semVal (thr d i, .dma cc1_scratch2.sem) 0 ∗ ∃ W', owes (thr d i) O W') -∗ WP d i q Q)) : sProp 𝕄)
      ⊢ WP d i (loop (await i oW shW cc1_scratch2) 512 q (n + 1)) Q := by
  induction n generalizing e W with
  | zero =>
    obtain rfl : e = 511 := hn
    iintro ⟨Hm, HB, HO, Hk⟩
    rw [loop, loop]
    iapply (wait_last d i bv q Q O W)
    isplitl [Hm]; · iexact Hm
    isplitl [HB]; · iexact HB
    isplitl [HO]; · iexact HO
    iintro ⟨HD, Hv, HO⟩
    iapply Hk
    isplitl [HD]; · iexact HD
    isplitl [Hv]; · iexact Hv
    iexists _; iexact HO
  | succ n ih =>
    rw [loop]
    iintro ⟨#Hm, HB, HO, Hk⟩
    iapply (wait_step d i bv _ Q O W _ e (by omega))
    isplitr; · iexact Hm
    isplitl [HB]; · iexact HB
    isplitl [HO]; · iexact HO
    iintro ⟨HB, HO⟩
    iapply (ih _ (e + 1) (by omega))
    isplitr; · iexact Hm
    isplitl [HB]; · iexact HB
    isplitl [HO]; · iexact HO
    iexact Hk

end Cert.Proof.Seq

end
-- ==== Proof.SeqBody.lean ====
/-
  The whole body on a sequencer, and the launch's obligation: the band into the shared scratch, the scratch dealt into 512
  read shares, the result's rows into the 512 row blocks, all copies issued and waited for, everything gathered again.
-/
module

public import proofs.«01_k».proof.Proof.SeqRun

@[expose] public section

noncomputable section

namespace Cert.Proof.Seq

open Cert.KernelIdeal Cert.KernelIdeal.Gen

open Idealize.ShloMosaic
open Idealize.ShloMosaic.SparseCore (S V T)
open Idealize.ShloMosaic.SparseCore.Cfg (HIx Pay ownBufs ownSems0)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "bW" => (Memref.whole Cert.KernelIdeal.main_v0_scs : Memref Cert.KernelIdeal.sig Kind.scScalar Space.hbm Cert.KernelIdeal.S1024x128 EltTy.f32)
local notation "oW" => (Memref.whole Cert.KernelIdeal.main_v1_scs : Memref Cert.KernelIdeal.sig Kind.scScalar Space.hbm Cert.KernelIdeal.S1024x512x128 EltTy.f32)
local notation "shW" => (Memref.whole Cert.KernelIdeal.cc1_scratch0 : Memref Cert.KernelIdeal.sig Kind.scScalar Space.shared Cert.KernelIdeal.S1024x128 EltTy.f32)

variable [FloatOps F]

/-- A family of pairs is the pair of the families. -/
theorem both (A B : Fin 512 → sProp 𝕄) : (bigSep Finset.univ fun k => iprop(A k ∗ B k)) = iprop(bigSep Finset.univ A ∗ bigSep Finset.univ B) :=
  BI.bigSep_sep _ _ _

section Run

variable (d : Dev nD) (i : grid1.Coords) (bv : S1024x128.Idx → Elt F .f32)

/-- What of the staged band no copy reads: the share left over, and of each copy's share the rows outside its window. -/
def shRest : sProp 𝕄 :=
  iprop((shLoc d (coreOf i) ↦{shareDrop fullShare 512} bv)
    ∗ bigSep Finset.univ fun k : Fin 512 => shLoc d (coreOf i) ↦[Finset.univ \ srcSet k]{shareTok fullShare 512 k} bv)

/-- The staged band is the 512 copies' read shares over their windows, and the rest. -/
theorem sh_deal : (shLoc d (coreOf i) ↦{fullShare} bv : sProp 𝕄)
    ⊣⊢ iprop(shRest d i bv ∗ bigSep Finset.univ fun k : Fin 512 => srcP d i bv k) := by
  have h2 : (bigSep Finset.univ fun k : Fin 512 => (shLoc d (coreOf i) ↦{shareTok fullShare 512 k} bv : sProp 𝕄))
      = iprop((bigSep Finset.univ fun k : Fin 512 => srcP d i bv k)
          ∗ bigSep Finset.univ fun k : Fin 512 => shLoc d (coreOf i) ↦[Finset.univ \ srcSet k]{shareTok fullShare 512 k} bv) := by
    refine (bigSep_congr fun k _ => ?_).trans (BI.bigSep_sep Finset.univ _ _)
    have hs : srcP d i bv k = (shLoc d (coreOf i) ↦[srcSet k]{shareTok fullShare 512 k} bv : sProp 𝕄) := by
      unfold srcP; rw [src_set_eq]
    rw [hs]
    have h := pointsTo_split_subset (Ix := HIx 1) (Lvl := ℕ) (Name := ℕ) (U := UU) (ℓ := shLoc d (coreOf i)) (q := shareTok fullShare 512 k) (f := bv) (Finset.subset_univ (srcSet k))
    exact h.1.antisymm h.2
  unfold shRest
  constructor
  · iintro H
    ihave H := (pointsTo_toks (ℓ := shLoc d (coreOf i)) (S := Finset.univ) (f := bv) fullShare 512).1 $$ H
    icases H with ⟨H0, H⟩
    ihave H := (Entails.of_eq h2) $$ H
    icases H with ⟨H1, H2⟩
    isplitr [H1]
    · isplitl [H0] <;> iassumption
    · iexact H1
  · iintro ⟨⟨H0, H2⟩, H1⟩
    iapply (pointsTo_toks (ℓ := shLoc d (coreOf i)) (S := Finset.univ) (f := bv) fullShare 512).2
    isplitl [H0]; · iexact H0
    iapply (Entails.of_eq h2.symm)
    isplitl [H1] <;> iassumption

/-- A core's rows of the result are its 512 row blocks. -/
theorem out_deal (f : S1024x512x128.Idx → Elt F .f32) : (oLoc d ↦[rows (i 0).val]{fullShare} f : sProp 𝕄) = bigSep Finset.univ fun k : Fin 512 => dstP d i f k := by
  rw [← rows_cover, pointsTo_biUnion _ _ (dst_disjoint i)]
  refine bigSep_congr fun k _ => ?_
  unfold dstP; rw [dst_set_eq]

/-- The staging copy's units. -/
abbrev Ns : ℕ := Ref.dmaCredit cc1_scratch0 S1024x128 .f32
/-- The copy of the band counts something. -/
theorem Ns_pos : 0 < Ns := sig.dmaCredit_pos _ _ _ S1024x128 .f32 (by decide)

/-- The whole array as a copy addresses it is the array. -/
theorem pts_b (q : PosShare TreeShare) (f : S1024x128.Idx → Elt F .f32) :
    ((bW).view.loc (thr d i) ↦[(bW).view.set]{q} f : sProp 𝕄) = bLoc d ↦{q} f := by
  simp only [Memref.view_whole, View.set_whole]
/-- The shared scratch, as the body names it. -/
theorem pts_sh (f : S1024x128.Idx → Elt F .f32) :
    ((shW).view.loc (thr d i) ↦[(shW).view.set]{fullShare} f : sProp 𝕄) = shLoc d (coreOf i) ↦{fullShare} f := by
  simp only [Memref.view_whole, View.set_whole]

/-- The two DMA cells of the body, at zero. -/
abbrev cells0 (d : Dev nD) (c : Fin τ.nSC) : sProp 𝕄 :=
  iprop(semVal (S d c, SemLoc.dma cc1_scratch1.sem) 0 ∗ semVal (S d c, SemLoc.dma cc1_scratch2.sem) 0)

/-- The copies in: from the band, the scratch and its cell at zero, to the scratch holding the band. -/
theorem stage_run {α : Type} (q : Prog (TpuEff nD τ sig (Elt F) Λ₀ (.scScalar (coreOf i))) α) (Q : α → sProp 𝕄)
    (O : CellTallies nD τ sig (HIx 1)) (W : Waits sig (HIx 1)) (qs : PosShare TreeShare) (fs : S1024x128.Idx → Elt F .f32) :
    (iprop(MayWait (thr d i) (.dma cc1_scratch1.sem) (none : HIx 1) O ∗ (bLoc d ↦{qs} bv) ∗ (shLoc d (coreOf i) ↦{fullShare} fs)
        ∗ semVal (thr d i, SemLoc.dma cc1_scratch1.sem) 0 ∗ owes (thr d i) O W
        ∗ (iprop((bLoc d ↦{qs} bv) ∗ (shLoc d (coreOf i) ↦{fullShare} bv) ∗ semVal (thr d i, SemLoc.dma cc1_scratch1.sem) 0
            ∗ owes (thr d i) O (insert (SemLoc.dma cc1_scratch1.sem, none) W)) -∗ WP d i q Q)) : sProp 𝕄)
      ⊢ WP d i (stage i bW (Memref.isWhole_whole _) shW (Memref.isWhole_whole _) cc1_scratch1 q) Q := by
  iintro ⟨Hm, Hb, Hs, HC, HO, Hk⟩
  ihave Hb := (Entails.of_eq (pts_b (F := F) d i qs bv).symm) $$ Hb
  ihave Hs := (Entails.of_eq (pts_sh (F := F) d i fs).symm) $$ Hs
  iapply (wp_dmaLocal (EC (F := F)) 𝒱₀ (thr d i) none (src := bW) (via := ReadAs.same) (dst := shW)
    (q := qs) (fs := bv) (fd := fs) (Sd := (shW).view.set) (none : HIx 1) Ns rfl Ns_pos (Finset.Subset.refl _)) $$ [Hb Hs HC]
  · isplitl [Hb]; · iexact Hb
    isplitl [Hs]; · iexact Hs
    iexact HC
  iintro HF
  iapply (wp_waitLocalO (EC (F := F)) 𝒱₀ (thr d i) none (srcw := bW) (dstw := shW) (none : HIx 1) (N := Ns) rfl) $$ [HF HO Hm]
  · isplitl [HF]; · iexact HF
    isplitl [HO]; · iexact HO
    iexact Hm
  iintro ⟨⟨Hs, Hb⟩, HC, HO⟩
  iapply Hk
  isplitl [Hb]; · iapply (Entails.of_eq (pts_b (F := F) d i qs bv)); iexact Hb
  isplitl [Hs]
  · iapply (Entails.of_eq (pts_sh (F := F) d i bv))
    iapply (Entails.of_eq (congrArg (fun g => ((shW).view.loc (thr d i) ↦[(shW).view.set]{fullShare} g : sProp 𝕄))
      (View.write_whole_univ (Val := Elt F) cc1_scratch0 fs bv)))
    iexact Hs
  isplitl [HC] <;> iassumption

/-- The body on a sequencer: the band read and given back, the core's rows of the result at the band's windows. -/
theorem seq_run (O : CellTallies nD τ sig (HIx 1)) (W : Waits sig (HIx 1)) (qs : PosShare TreeShare)
    (fs : S1024x128.Idx → Elt F .f32) (fo : S1024x512x128.Idx → Elt F .f32) :
    (iprop(MayWaits (thr d i) (none : HIx 1) O ∗ (bLoc d ↦{qs} bv) ∗ (oLoc d ↦[rows (i 0).val]{fullShare} fo) ∗ (shLoc d (coreOf i) ↦{fullShare} fs)
        ∗ cells0 d (coreOf i) ∗ owes (thr d i) O W) : sProp 𝕄)
      ⊢ WP d i (cc1__scs_body i bW (Memref.isWhole_whole _) oW (Memref.isWhole_whole _) shW (Memref.isWhole_whole _) cc1_scratch1 cc1_scratch2)
          fun _ => iprop((bLoc d ↦{qs} bv) ∗ (oLoc d ↦[rows (i 0).val]{fullShare} outV bv) ∗ (∃ f, shLoc d (coreOf i) ↦{fullShare} f)
            ∗ cells0 d (coreOf i) ∗ ∃ W', owes (thr d i) O W') := by
  rw [body_eq]
  iintro ⟨#Hmw, Hb, Ho, Hs, ⟨HC1, HC2⟩, HO⟩
  ihave Hm1 := (MayWaits.elim (c := thr d i) (ι := (none : HIx 1)) (O := O) (SemLoc.dma cc1_scratch1.sem)) $$ Hmw
  ihave Hm2 := (MayWaits.elim (c := thr d i) (ι := (none : HIx 1)) (O := O) (SemLoc.dma cc1_scratch2.sem)) $$ Hmw
  iapply (stage_run d i bv _ _ O W qs fs)
  isplitl [Hm1]; · iexact Hm1
  isplitl [Hb]; · iexact Hb
  isplitl [Hs]; · iexact Hs
  isplitl [HC1]; · iexact HC1
  isplitl [HO]; · iexact HO
  iintro ⟨Hb, Hs, HC1, HO⟩
  imod (batch_alloc' (EC (F := F)) (thr d i) (sm := SemLoc.dma cc1_scratch2.sem) (none : HIx 1) N (Dl d i bv) (E := Set.univ)) $$ HC2 with HB
  ihave Hs := (sh_deal d i bv).1 $$ Hs
  icases Hs with ⟨Hr, Hs⟩
  ihave Ho := (Entails.of_eq (out_deal d i fo)) $$ Ho
  iapply (issues d i bv fo _ _ 0 512 rfl)
  isplitl [Hs Ho]
  · rw [pending_zero]
    iapply (Entails.of_eq (both (F := F) _ _).symm)
    isplitl [Hs] <;> iassumption
  isplitl [HB]; · iexact HB
  iintro HB
  iapply (waits d i bv _ _ O _ 0 511 rfl)
  isplitl [Hm2]; · iexact Hm2
  isplitl [HB]; · rw [Nat.zero_mul]; iexact HB
  isplitl [HO]; · iexact HO
  iintro ⟨HD, HC2, HO⟩
  ihave HD := (Entails.of_eq (both (F := F) (fun k => dstP d i (outV bv) k) (fun k => srcP d i bv k))) $$ HD
  icases HD with ⟨Ho, Hs⟩
  unfold WP; rw [wp_ret]; imodintro
  isplitl [Hb]; · iexact Hb
  isplitl [Ho]; · iapply (Entails.of_eq (out_deal d i (outV bv)).symm); iexact Ho
  isplitl [Hr Hs]
  · iexists bv
    iapply (sh_deal d i bv).2
    isplitl [Hr] <;> iassumption
  isplitl [HC1 HC2]
  · isplitl [HC1] <;> iassumption
  iexact HO

end Run

end Cert.Proof.Seq

end
-- ==== Proof.Obl.lean ====
/-
  The launch's payloads and its obligation: each SparseCore's sequencer takes half of the band's read share and its own rows
  of the result, and gives back the share and the rows at the band's windows.
-/
module

public import proofs.«01_k».proof.Proof.SeqBody

@[expose] public section

noncomputable section

namespace Cert.Proof.Seq

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "bW" => (Memref.whole Cert.KernelIdeal.main_v0_scs : Memref Cert.KernelIdeal.sig Kind.scScalar Space.hbm Cert.KernelIdeal.S1024x128 EltTy.f32)
local notation "oW" => (Memref.whole Cert.KernelIdeal.main_v1_scs : Memref Cert.KernelIdeal.sig Kind.scScalar Space.hbm Cert.KernelIdeal.S1024x512x128 EltTy.f32)
local notation "shW" => (Memref.whole Cert.KernelIdeal.cc1_scratch0 : Memref Cert.KernelIdeal.sig Kind.scScalar Space.shared Cert.KernelIdeal.S1024x128 EltTy.f32)

variable [FloatOps F]
variable (bv : Dev nD → S1024x128.Idx → Elt F .f32)

/-- The two cores' halves of the band's share. -/
def half (c : Nat) : PosShare TreeShare := if c = 0 then fullShare.left else fullShare.right

/-- The call's payloads: half of the band's share and the core's rows of the result there; the same back, the rows written. -/
def P : (K (F := F)).Pay (nD := nD) (Val := Elt F) (Name := ℕ) (U := UU) where
  st := fun _ d c => iprop((bLoc d ↦{half c.val} bv d) ∗ ∃ f, oLoc d ↦[rows c.val]{fullShare} f)
  dn := fun _ d c => iprop((bLoc d ↦{half c.val} bv d) ∗ oLoc d ↦[rows c.val]{fullShare} outV (bv d))
  go := fun _ _ _ _ => iprop(emp)
  td := fun _ _ _ _ => iprop(emp)
  x := fun _ _ => iprop(emp)

/-- What the handshakes carry may be stored in them. -/
instance P_storable : (P (F := F) bv).IsStorable where
  st _ d c := by unfold P; infer_instance
  dn _ d c := by unfold P; infer_instance
  go _ _ _ _ := by unfold P; infer_instance
  td _ _ _ _ := by unfold P; infer_instance

/-! ## The sequencer's own buffers and cells -/

section Body

variable (d : Dev nD)

omit [FloatOps F] in
/-- A core's own DMA semaphores are among its own cells. -/
theorem cell_mem (c : Fin τ.nSC) (s : DmaSem sig) : ((S d c, SemLoc.dma s) : GSem nD τ sig) ∈ ownCells (S d c) :=
  mem_ownCells.mpr ⟨rfl, (show ∀ s : DmaSem sig, (SemLoc.dma s : SemLoc sig).isScoped .scScalar = true by decide) _⟩

omit [FloatOps F] in
/-- The sequencer's own cells at zero: the body's two, and the rest. -/
theorem ownSems0_S (c : Fin τ.nSC) :
    (ownSems0 (S d c) : sProp 𝕄)
      = iprop(semVal (S d c, SemLoc.dma cc1_scratch1.sem) 0 ∗ semVal (S d c, SemLoc.dma cc1_scratch2.sem) 0
          ∗ bigSep (((ownCells (S d c)).erase (S d c, SemLoc.dma cc1_scratch1.sem)).erase (S d c, SemLoc.dma cc1_scratch2.sem)) fun g => semVal g 0) := by
  unfold SparseCore.Cfg.ownSems0
  rw [SparseCore.bigSep_erase' (cell_mem d c cc1_scratch1.sem),
    SparseCore.bigSep_erase' (Finset.mem_erase.mpr ⟨fun h => absurd (congrArg (fun g : GSem nD τ sig => g.2) h) (show ¬ (SemLoc.dma cc1_scratch2.sem : SemLoc sig) = SemLoc.dma cc1_scratch1.sem by decide), cell_mem d c cc1_scratch2.sem⟩)]

omit [FloatOps F] in
/-- Its shared scratch is among its own buffers. -/
theorem ownBufs_S (c : Fin τ.nSC) :
    (ownBufs (S d c) : sProp 𝕄)
      = iprop((∃ f, shLoc d c ↦{fullShare} f)
          ∗ bigSep ((ownRefs (τ := τ) (.scScalar c)).erase ((Proc.scScalar c).devRef cc1_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc1_scratch0)).mpr rfl)

/-- The kernel on a sequencer in the obligation's shape. -/
theorem body₀ (i : grid1.Coords) (n : ℕ) (hn : (i 0).val = n) (O : CellTallies nD τ sig (HIx 1)) (W : Waits sig (HIx 1)) (hO : ∀ g, O g none = 0) :
    (iprop(levAts (K (F := F)).L (K (F := F)).lev ∗ emp ∗ ((bLoc d ↦{half n} bv d) ∗ ∃ f, oLoc d ↦[rows n]{fullShare} f)
        ∗ scopedBufs (thr d i) ∗ scopedSems0 (thr d i) ∗ owes (thr d i) O W) : sProp 𝕄)
      ⊢ wp frame (wpE (defs₀ (F := F)) 𝒱₀ (thr d i) none) Set.univ
          (cc1__scs_body i bW (Memref.isWhole_whole _) oW (Memref.isWhole_whole _) shW (Memref.isWhole_whole _) cc1_scratch1 cc1_scratch2)
          fun _ => iprop(((bLoc d ↦{half n} bv d) ∗ oLoc d ↦[rows n]{fullShare} outV (bv d)) ∗ scopedBufs (thr d i) ∗ scopedSems0 (thr d i)
            ∗ ∃ W', ⌜∀ p ∈ W', p ∈ W ∨ p.2 = none ∨ p.2 = some (0 : Fin 1)⌝ ∗ owes (thr d i) O W') := by
  subst hn
  rw [(K (F := F)).scopedBufs_S facts d _, SparseCore.Cfg.scopedSems0_S (Val := Elt F) d _, ownSems0_S, ownBufs_S]
  iintro ⟨#Hlv, -, ⟨Hb, %fo, Ho⟩, ⟨⟨⟨%fs, Hsh⟩, Hbufs⟩, Htiles⟩, ⟨⟨HC1, HC2, Hsems⟩, HtileSems⟩, HO⟩
  ihave Hmw := ((K (F := F)).mayWaits_none (thr := thr d i) hO) $$ Hlv
  iapply (wp_wand_r Idealize.ShloMosaic.frame (wpE (defs₀ (F := F)) 𝒱₀ (thr d i) none) Set.univ)
  isplitl [Hb Ho Hsh HC1 HC2 HO]
  · iapply (seq_run d i (bv d) O W (half (i 0).val) fs fo)
    isplitr; · iexact Hmw
    isplitl [Hb]; · iexact Hb
    isplitl [Ho]; · iexact Ho
    isplitl [Hsh]; · iexact Hsh
    isplitl [HC1 HC2]; · isplitl [HC1] <;> iassumption
    iexact HO
  iintro %_ ⟨Hb, Ho, Hsh, ⟨HC1, HC2⟩, %W', HO⟩
  isplitl [Hb Ho]; · isplitl [Hb] <;> iassumption
  isplitl [Hsh Hbufs Htiles]
  · isplitl [Hsh Hbufs]
    · isplitl [Hsh] <;> iassumption
    iexact Htiles
  isplitl [HC1 HC2 Hsems HtileSems]
  · isplitl [HC1 HC2 Hsems]
    · isplitl [HC1]; · iexact HC1
      isplitl [HC2] <;> iassumption
    iexact HtileSems
  iexists W'; isplitr
  · ipureintro; intro p _
    rcases p.2 with _ | q
    · exact .inr (.inl rfl)
    · exact .inr (.inr (congrArg some (Subsingleton.elim q 0)))
  · iexact HO

end Body

/-! ## The launch theorem's obligation -/

/-- The grid point of SparseCore `c`. -/
def coordsS (c : Fin (grid1.bound 0)) : grid1.Coords := fun | 0 => c | ⟨_ + 1, h⟩ => absurd h (Nat.not_lt.2 (Nat.le_add_left _ _))

/-- The scalar core's procedure is the kernel's body at that core. -/
theorem defs₀_scalar (c : Fin τ.nSC) :
    defs₀ (F := F) (.scScalar c) 1 ()
      = SparseCore.onCore hcore1 (fun c => cc1__scs_body (coordsS c) bW (Memref.isWhole_whole _) oW (Memref.isWhole_whole _)
          shW (Memref.isWhole_whole _) cc1_scratch1 cc1_scratch2) ⟨⟩ c := rfl

/-- The kernel's definition at a grid point's SparseCore is the body at that point. -/
theorem defs₀_at (c : Fin (grid1.bound 0)) :
    defs₀ (F := F) (.scScalar (coreOf (coordsS c))) 1 ()
      = cc1__scs_body (coordsS c) bW (Memref.isWhole_whole _) oW (Memref.isWhole_whole _) shW (Memref.isWhole_whole _) cc1_scratch1 cc1_scratch2 := by
  have hc : (coreOf (coordsS c)).val < grid1.bound 0 := c.isLt
  rw [defs₀_scalar]; simp only [SparseCore.onCore, hc, ↓reduceDIte]
  rfl

/-- An entailment's right side, replaced by an equal one. -/
theorem Entails.of_eq_right {A B C : sProp 𝕄} (h : A ⊢ B) (e : B = C) : A ⊢ C := e ▸ h

/-- The kernel's definition run on the sequencer of SparseCore `c`. -/
theorem body_at (d : Dev nD) (c : Fin (grid1.bound 0)) (O : CellTallies nD τ sig (HIx 1)) (W : Waits sig (HIx 1)) (hO : ∀ g, O g none = 0) :
    (iprop(levAts (K (F := F)).L (K (F := F)).lev ∗ emp ∗ ((bLoc d ↦{half c.val} bv d) ∗ ∃ f, oLoc d ↦[rows c.val]{fullShare} f)
        ∗ scopedBufs (S d (coreOf (coordsS c))) ∗ scopedSems0 (S d (coreOf (coordsS c))) ∗ owes (S d (coreOf (coordsS c))) O W) : sProp 𝕄)
      ⊢ wp frame (wpE (defs₀ (F := F)) 𝒱₀ (S d (coreOf (coordsS c))) none) Set.univ (defs₀ (F := F) (.scScalar (coreOf (coordsS c))) 1 ())
          fun _ => iprop(((bLoc d ↦{half c.val} bv d) ∗ oLoc d ↦[rows c.val]{fullShare} outV (bv d)) ∗ scopedBufs (S d (coreOf (coordsS c))) ∗ scopedSems0 (S d (coreOf (coordsS c)))
            ∗ ∃ W', ⌜∀ p ∈ W', p ∈ W ∨ p.2 = none ∨ p.2 = some (0 : Fin 1)⌝ ∗ owes (S d (coreOf (coordsS c))) O W') := by
  rw [defs₀_at]
  refine (Entails.of_eq_right (body₀ bv d (coordsS c) c.val rfl O W hO) ?_)
  congr 1

/-- The obligation at the call: either sequencer runs the body. -/
theorem scalarObl : (K (F := F)).ScalarObl (D (F := F)) 𝒱 (P bv) v₀ 0 := by
  intro d c O W hO _ _
  simp only [show (P bv).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  exact body_at bv d c O W hO

end Cert.Proof.Seq
end
-- ==== Proof.Band.lean ====
/-
  The TensorCore's call: the body's run, and the band it leaves, row `u` of which is the table's row `bandRow u`.
-/
module

public import proofs.«01_k».proof.Proof.Setup
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Regions
public import Idealize.ShloMosaic.Lib.VecWindow
public import Idealize.ShloMosaic.Lib.Pointwise

@[expose] public section

noncomputable section

namespace Cert.Proof.Seq

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What a buffer of the TensorCore holds. -/
abbrev Bf (c : Dev nD) {sp : Space} {S : Shape} {e : EltTy} (M : Memref sig .tc sp S e) : Type := Buf (Elt F) (M.view.loc (c : Thread nD τ))
/-- The whole buffer, held with contents f. -/
abbrev pt (c : Dev nD) {sp : Space} {S : Shape} {e : EltTy} (M : Memref sig .tc sp S e) (f : Bf (F := F) c M) : sProp 𝕄 :=
  M.view.loc (c : Thread nD τ) ↦{fullShare} f

set_option maxRecDepth 65536 in
/-- The TensorCore body's run: what it leaves in the band's buffer, and that it keeps the table's. -/
noncomputable def bandRun (c : Dev nD) (f0 : Bf (F := F) c (stage0_0 0)) :
    { W : Bf (F := F) c (stage0_1 0) // ∀ (f1 : Bf (F := F) c (stage0_1 0)) (E : Set ℕ) (Q : PUnit → sProp 𝕄),
        iprop(pt c (stage0_0 0) f0 ∗ pt c (stage0_1 0) f1 ∗ (iprop(pt c (stage0_0 0) f0 ∗ pt c (stage0_1 0) W) -∗ Q ⟨⟩))
          ⊢ wp frame (wpE (defs₀ (F := F)) Variants.none c none) E (cc0__band_tc_body (stage0_0 0) (hstage0_0 0) (stage0_1 0) (hstage0_1 0)) Q } := by
  refine ⟨?_, fun f1 E Q => ?run⟩
  case run =>
    rw [cc0__band_tc_body_eq_skeleton]
    unfold cc0__band_tc_body_skel
    rw [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton]
    unfold k0_part1_skel k0_part2_skel k0_part3_skel k0_part4_skel k0_part5_skel k0_part6_skel k0_part7_skel k0_part8_skel k0_part9_skel k0_part10_skel k0_part11_skel
    iintro ⟨H0, H1, Hk⟩
    sl_exec!
    sl_step
    iapply Hk
    isplitl [H0]; · iexact H0
    iexact H1

/-! ## What the body computes -/

/-- The table's row the band's row `u` holds: `clip (u - 511) (-32) 32 + 33`. -/
def bandRow (u : Nat) : Nat := if u < 479 then 1 else if 543 < u then 65 else u - 478

/-- Every band row comes from a row of the table. -/
theorem bandRow_lt (u : Nat) : bandRow u < 66 := by unfold bandRow; split_ifs <;> omega

/-- The band over a table: row `u` is the table's row `bandRow u`. -/
def bandV (tab : S66x128.Idx → Elt F .f32) : S1024x128.Idx → Elt F .f32 := fun x =>
  tab (ix2 (n0 := 66) (n1 := 128) ⟨bandRow (x 0).val, bandRow_lt _⟩ (x 1))

/-- The row index's word, at each of the band's rows. -/
theorem idx_word : ∀ u : Fin 1024, IntOp.addi (IntOp.minsi (32#32) (IntOp.maxsi (4294967264#32) (IntOp.subi (BitVec.ofNat 32 u.val) 511#32))) 33#32
    = BitVec.ofNat 32 (bandRow u.val) := by decide +kernel

/-- The row index the body computes is the band's. -/
theorem idx_eq (x : S1024x128.Idx) : k0_pay2 x = BitVec.ofNat 32 (bandRow (x 0).val) := by
  pointwise [k0_pay2]
  exact idx_word (x 0)

/-- One of the body's 66 selections: the row, where the row index is `n`. -/
def stepV (n : Nat) (prev : FVec F S1024x128 .f32) (row : Vec F S1x128 .f32) : FVec F S1024x128 .f32 :=
  select (cmpi .eq k0_pay2 (broadcast S1024x128 (BitVec.ofNat 32 n)))
    (broadcastTo S1024x128 (shapeCast S1x128 (shapeCast S128 row shapeCasts_S1x128_S128) shapeCasts_S128_S1x128) broadcasts_S1x128_S1024x128) prev

/-- One select, at one entry. -/
theorem stepV_apply (n : Nat) (prev : FVec F S1024x128 .f32) (row : Vec F S1x128 .f32) (x : S1024x128.Idx) :
    stepV n prev row x = if k0_pay2 x = BitVec.ofNat 32 n then row (ix2 (n0 := 1) (n1 := 128) 0 (x 1)) else prev x := by
  pointwise [stepV]
  by_cases h : k0_pay2 x = BitVec.ofNat 32 n
  · rw [if_pos h, h]; simp [Scalar.select, IntOp.cmpi]
  · rw [if_neg h]; simp [Scalar.select, IntOp.cmpi, beq_false_of_ne h]

/-- Row `n` of the table lies inside it. -/
theorem row_inb (n : Fin 66) : ∀ a, (![n.val, 0] : Fin 2 → Nat) a + S1x128.size a ≤ S66x128.size a := by
  intro a
  match a with
  | 0 => show n.val + 1 ≤ 66; omega
  | 1 => show 0 + 128 ≤ 128; omega

/-- The load of row `n` of the staged table. -/
def rowV (tab : S66x128.Idx → Elt F .f32) (n : Fin 66) : Vec F S1x128 .f32 :=
  View.readAt (Elt F) (stage0_0 0).view (Rect.unit (s := S66x128) ![n.val, 0] S1x128.size (row_inb n)).toLoadRect tab

/-- A row loaded from the table, at one lane. -/
theorem rowV_apply (tab : S66x128.Idx → Elt F .f32) (n : Fin 66) (j : Fin 128) :
    rowV tab n (ix2 (n0 := 1) (n1 := 128) 0 j) = tab (ix2 (n0 := 66) (n1 := 128) n j) := by
  unfold rowV
  rw [View.readAt_apply]
  show tab _ = tab _
  congr 1
  funext a
  match a with
  | 0 => exact Fin.ext (by show n.val + 1 * 0 = n.val; omega)
  | 1 => exact Fin.ext (by show 0 + 1 * j.val = j.val; omega)

/-- The first `n` selections over a table's rows. -/
def chainV (tab : S66x128.Idx → Elt F .f32) : Nat → FVec F S1024x128 .f32
  | 0 => broadcast S1024x128 (Scalar.ofBits .f32 0x00000000#32)
  | n + 1 => stepV n (chainV tab n) (rowV tab (Fin.ofNat 66 n))

/-- After `n` selections the rows whose index is below `n` are the table's. -/
theorem chainV_apply (tab : S66x128.Idx → Elt F .f32) (x : S1024x128.Idx) :
    ∀ n, n ≤ 66 → bandRow (x 0).val < n → chainV tab n x = bandV tab x
  | 0, _, h => absurd h (Nat.not_lt_zero _)
  | n + 1, hn, h => by
    have hb := bandRow_lt (x 0).val
    rw [chainV, stepV_apply, idx_eq]
    by_cases e : bandRow (x 0).val = n
    · rw [if_pos (by rw [e])]
      refine (rowV_apply tab (Fin.ofNat 66 n) (x 1)).trans ?_
      unfold bandV
      congr 2
      exact Fin.ext (by show n % 66 = bandRow (x 0).val; omega)
    · rw [if_neg (fun h' => e (by have := congrArg BitVec.toNat h'; simp only [BitVec.toNat_ofNat] at this; omega))]
      exact chainV_apply tab x n (by omega) (by omega)

set_option maxRecDepth 65536 in
/-- The body leaves the band of the staged table. -/
theorem bandRun_val (c : Dev nD) (f0 : Bf (F := F) c (stage0_0 0)) : (bandRun c f0).1 = bandV (F := F) f0 := by
  unfold bandRun
  dsimp only
  unfold bandRun.sl.H1_1
  refine (View.read_whole (Val := Elt F) cc0_stg1_0 _).symm.trans ?_
  refine (View.read_writes_full (Val := Elt F) (View.whole cc0_stg1_0) _ _ _ _).trans ?_
  have h : chainV f0 66 = bandV f0 := funext fun x => chainV_apply f0 x 66 le_rfl (bandRow_lt _)
  exact Eq.trans rfl h

end Cert.Proof.Seq
end
-- ==== Proof.Region.lean ====
/-
  The TensorCore's call of @main: the pipeline over two whole-array windows, the table in and the band out, entered from any
  contents of the core's buffers and left with the band's array at the band of the table. While it runs the core
  owes the two start signals of the sequencers' call.
-/
module

public import proofs.«01_k».proof.Proof.Band
public import Idealize.ShloMosaic.Lib.Pipeline.ValueKit

@[expose] public section

noncomputable section

namespace Cert.Proof.Seq

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]

local notation "𝕄" => MT nD τ sig (HIx 1) (Elt F) ℕ UU ℕ

/-- The pipeline has no prefetched table. -/
abbrev adm : (p : Fin 1) → (pcfgs (F := F) p).Adm := fun p => (cfgs p).toPCfg_adm

variable (Vl : (c : Dev nD) → (b : Ref sig .tc) → Buf (Elt F) ((c : Thread nD τ).loc b))

/-- The table as the fetch stages it. -/
abbrev stg (c : Dev nD) : (cfg0.win 0).block.Idx → Elt F (cfg0.win 0).elt := ((cfg0.win 0).blk t0_0).view.read (Elt F) (Vl c main_arg1)

/-- The core's scoped buffers that no window stages. -/
abbrev Φc (c : Dev nD) : sProp 𝕄 := Pipeline.scopedRest (Ix := HIx 1) (Name := ℕ) (U := UU) (Lvl := ℕ) (Val := Elt F) spec0 c

/-- What the core's waits have recorded before the call sits below the call's levels. -/
abbrev below (c : Dev nD) : Set (SemLoc sig × HIx 1) := {p | (K (F := F)).lev (T c, p.1) p.2 ≤ 0}

/-- The proof data: the arrays at the entry contents, the table's buffer as fetched, the band's at the band of it; the core owes
    the sequencers' start signals throughout. -/
def dat (c : Dev nD) : Dat τ (Elt F) (HIx 1) ℕ UU ℕ cfg0 c where
  A w := Vl c (Pipeline.arrRef spec0 w)
  after w _ := match w with
    | ⟨0, _⟩ => stg Vl c
    | ⟨1, _⟩ => bandV (stg Vl c)
  Φ _ := Φc c
  q _ := fullShare
  owed _ := (K (F := F)).Otc c 0
  recorded _ := below (F := F) c

/-- What the core owes sits at the call's stage, never at the kernels' own index. -/
theorem owed_none (c : Dev nD) (g : GSem nD τ sig) : (K (F := F)).Otc c 0 g none = 0 := by
  by_contra h
  have := (K (F := F)).lev_of_Otc_pos (Nat.pos_of_ne_zero h)
  rw [SparseCore.Cfg.lev_none] at this
  omega

/-- The proof data of the only pipelined call. -/
def pdats : (p : Fin 1) → (c : Dev nD) → Dat τ (Elt F) (HIx 1) ℕ UU ℕ (Pipeline.pin (pcfgs (F := F)) adm p) c
  | ⟨0, _⟩ => fun c => dat Vl c

/-- What the input window holds before the only grid point: the staged table. -/
theorem before_in (c : Dev nD) (d : (cfg0.win 0).block.Idx → Elt F (cfg0.win 0).elt) : (dat Vl c).before 0 t0_0 d = stg Vl c := by
  unfold Dat.before; rw [if_pos (by decide)]; rfl

/-- The body's obligation: the body run on the two staging buffers. -/
theorem body_obligation (c : Dev nD) : BodyObligation (dat Vl c) (defs₀ (F := F)) 𝒱₀ none Set.univ := fun t => by
  obtain rfl := fin_N0 t
  rw [bigSep_W0, bigSep_W0]
  simp only [owns_whole_eq]
  rw [show (dat Vl c).Φ t0_0.castSucc = Φc c from rfl, show (dat Vl c).Φ t0_0.succ = Φc c from rfl,
    show (dat Vl c).owesAt none t0_0.succ = (dat Vl c).owesAt none t0_0.castSucc from rfl]
  iintro ⟨HΦ, Howes, ⟨%d0, %f0, %hf0, H0⟩, ⟨%d1, %f1, -, H1⟩⟩
  rw [before_in] at hf0
  subst hf0
  iapply ((bandRun c (stg Vl c)).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro
  exact bandRun_val c (stg Vl c)

/-- The staged table is the whole table. -/
theorem stg_eq (c : Dev nD) : stg Vl c = Vl c main_arg1 := by
  funext y
  have hi0 : win0_0.index t0_0 = ![0, 0] := by decide +kernel
  blk_simp [stg]
  have e : (win0_0.blk t0_0).view.emb y = y := by blk_ext [hi0]
  rw [e]

/-- The band's array after the call. -/
theorem arr_out (c : Dev nD) : (dat Vl c).arrAt 1 cfg0.N = bandV (F := F) (Vl c main_arg1) := by
  refine (dat Vl c).arrAt_eq_of_covers 1 _ (by decide +kernel) fun t hf y => ?_
  obtain rfl := fin_N0 t
  blk_simp
  have hi1 : win0_1.index t0_0 = ![0, 0] := by decide +kernel
  have e : (win0_1.blk t0_0).view.emb y = y := by blk_ext [hi1]
  rw [e]
  show bandV (stg Vl c) y = bandV (Vl c main_arg1) y
  rw [stg_eq]

variable (Vp : (c : Dev nD) → (b : Ref sig .tc) → Buf (Elt F) ((c : Thread nD τ).loc b))

set_option backward.isDefEq.respectTransparency.types false in
/-- The call over the core's buffers at `Vl`, left at `Vp`: `Vl` with the band's array at the band of the table. -/
def reg (R : Dev nD → sProp 𝕄) (hVp_out : ∀ c, Vp c main_v0 = bandV (F := F) (Vl c main_arg1))
    (hVp_ne : ∀ c (b : Ref sig .tc), b ≠ main_v0 → Vp c b = Vl c b) :
    Pipeline.RegionSeg (pcfgs (F := F)) adm (pdats Vl) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation Vl c).loose
  hwaits c := Pipeline.cellsWaits_intro _ _ _ _ _ fun w s t => (K (F := F)).mayWait_none _ (owed_none c)
  pre c := iprop(unscopedBufs c (Vl c) ∗ R c ∗ ∃ W, ⌜(K (F := F)).WBelow (T c) W 0⌝ ∗ owes (c : Thread nD τ) ((K (F := F)).Otc c 0) W)
  post c := iprop(unscopedBufs c (Vp c) ∗ R c ∗ ∃ W, ⌜(K (F := F)).WBelow (T c) W 0⌝ ∗ owes (c : Thread nD τ) ((K (F := F)).Otc c 0) W)
  X _ := BI.emp
  Y _ := BI.emp
  Z c := iprop(Pipeline.unscopedRest (Ix := HIx 1) (Name := ℕ) (U := UU) (Lvl := ℕ) spec0 c (Vl c) ∗ R c)
  hentry c := by
    rw [Pipeline.ownSems0_none]
    have hsplit := Pipeline.arrays_of_unscopedBufs (p := 0) (pcfgs (F := F)) adm (pdats Vl) (launch0).win (launch0).arr_whole c
      ((pdats Vl 0 c).share_full fun _ => rfl) (Vl c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats Vl 0 c).Φ 0 = Φc c from rfl]
    iintro ⟨-, -, Hr⟩; iexact Hr
  hout c := by
    rw [Pipeline.ownSems0_none, show (pdats Vl 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats Vl) ((pdats Vl 0 c).share_full fun _ => rfl) (Vl c) (Vp c) ((pdats Vl 0 c).arrAt · cfg0.N)
      (fun w => by
        fin_cases w
        · exact ((pdats Vl 0 c).arrAt_in 0 rfl _).trans (hVp_ne c main_arg1 (by decide)).symm
        · exact (arr_out Vl c).trans (hVp_out c).symm)
      (fun b hb => hVp_ne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | h
      · exact h
      · obtain ⟨w, s, rfl⟩ := h
        exact le_rfl
    iexact HO

end Cert.Proof.Seq
end
-- ==== Proof.Run.lean ====
/-
  The whole program's run, over any floats: the TensorCore's call leaves the band of the table, the sequencers' call copies its
  windows, the reshape is the result; the arguments and every semaphore end as they began.
-/
module

public import proofs.«01_k».proof.Proof.Obl
public import proofs.«01_k».proof.Proof.Region
public import Idealize.ShloMosaic.Lib.Pipeline.Kit

@[expose] public section

noncomputable section

namespace Cert.Proof.Seq

open Cert.KernelIdeal Cert.KernelIdeal.Gen

open Idealize.ShloMosaic
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The arguments and the result, as the TensorCore names them. -/
abbrev rLoc (d : Dev nD) : Loc nD τ sig := (SparseCore.T d).loc main_arg0
/-- The table. -/
abbrev tLoc (d : Dev nD) : Loc nD τ sig := (SparseCore.T d).loc main_arg1
/-- The result. -/
abbrev yLoc (d : Dev nD) : Loc nD τ sig := (SparseCore.T d).loc main_v2

/-- The band of the table the launch memory holds. -/
abbrev bvM (d : Dev nD) : S1024x128.Idx → Elt F .f32 := bandV (F := F) (m (tLoc d))

/-! ## The launch element: the handshakes' rounds and the pipeline's -/

/-- Different semaphores of the pipeline have different cells. -/
theorem cell_inj : Function.Injective (Pipeline.cellOf (nD := nD) (τ := τ) (Pipeline.pin (pcfgs (F := F)) adm)) := cellOf_inj

/-- The ghost state at the launch. -/
def u₀ : UU := (initOf (K (F := F)).hsCells (K (F := F)).hsToks,
  (initOf (Pipeline.cells (Pipeline.pin (pcfgs (F := F)) adm) cell_inj) (Pipeline.launchToks (Pipeline.pin (pcfgs (F := F)) adm) cell_inj), 1))

/-- What a device's TensorCore starts with of its own: the pipeline's rounds and tokens. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- Nothing, held any number of times, is nothing. -/
theorem bigSep_emp' {I : Type} (s : Finset I) : (bigSep s fun _ => iprop(emp)) = (iprop(emp) : sProp 𝕄) := bigSep_emp_const s

/-- The launch's ghost state splits into the handshakes' rounds, the pipeline's rounds and tokens, and nothing for the threads. -/
theorem hu₀ (bv : Dev nD → S1024x128.Idx → Elt F .f32) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (F := F) bv).x q thr) := by
  unfold u₀
  iintro Hu
  ihave H := (ownU_pair (initOf (K (F := F)).hsCells (K (F := F)).hsToks) _) $$ Hu
  icases H with ⟨HH, HR⟩
  ihave H := (own_pair_emb (embR (A := UH)) _ (1 : Counters)) $$ HR
  icases H with ⟨HP, -⟩
  ihave H := (Pipeline.fund_ghost (Pipeline.pin (pcfgs (F := F)) adm) (EP (F := F)) cell_inj) $$ HP
  imod H with ⟨Hg, Ht⟩
  imodintro
  isplitl [HH]; · iexact HH
  isplitl [Hg Ht]
  · unfold G
    rw [bigSep_sep']
    isplitl [Hg]
    · rw [show (fun c : Dev nD => bigSep Finset.univ fun p : Fin 1 => Pipeline.cellsGhost (Pipeline.pin (pcfgs (F := F)) adm) (EP (F := F)) p c) = _ from
        funext fun c => bigSep_univ_of_subsingleton (0 : Fin 1)]
      iexact Hg
    · rw [show (fun c : Dev nD => bigSep Finset.univ fun p : Fin 1 => (Pipeline.toksInit (Pipeline.pin (pcfgs (F := F)) adm) (EP (F := F)) p c : sProp 𝕄)) = _ from
        funext fun c => bigSep_univ_of_subsingleton (0 : Fin 1)]
      iexact Ht
  rw [show (bigSep Finset.univ fun thr : Thread nD τ => bigSep Finset.univ fun q : Fin 1 => (P (F := F) bv).x q thr) = bigSep Finset.univ fun _ => iprop(emp) from
    bigSep_congr fun _ _ => bigSep_univ_of_subsingleton (0 : Fin 1), bigSep_emp']
  iempintro

/-! ## @main's buffers -/

/-- The residue indices. -/
abbrev r' : DevRef τ sig := Proc.devRef .tc (main_arg0 : Ref sig .tc)
/-- The table. -/
abbrev t' : DevRef τ sig := Proc.devRef .tc (main_arg1 : Ref sig .tc)
/-- The band. -/
abbrev b' : DevRef τ sig := Proc.devRef .tc (main_v0 : Ref sig .tc)
/-- The SparseCore call's output. -/
abbrev o' : DevRef τ sig := Proc.devRef .tc (main_v1 : Ref sig .tc)
/-- The result. -/
abbrev y' : DevRef τ sig := Proc.devRef .tc (main_v2 : Ref sig .tc)
/-- The reshape that ends @main. -/
abbrev opR : HloOp τ sig (Elt F) := StableHlo.reshape main_v1 main_v2 (rfl : (.f32 : EltTy) = .f32) shapeCasts_S1024x512x128_S2x512x512x128

/-- The TensorCore's arrays, all unscoped. -/
abbrev S5 : Finset (DevRef τ sig) := {r', t', b', o', y'}

/-- They held at a valuation, one by one. -/
theorem held_S5 (d : Dev nD) (W : Valuation τ sig (Elt F)) :
    (held (SparseCore.T d) S5 W : sProp 𝕄) = iprop((rLoc d ↦{fullShare} W r') ∗ (tLoc d ↦{fullShare} W t') ∗ (bLoc d ↦{fullShare} W b') ∗ (oLoc d ↦{fullShare} W o') ∗ yLoc d ↦{fullShare} W y') := by
  unfold held S5
  rw [SparseCore.bigSep_insert' (by decide), SparseCore.bigSep_insert' (by decide), SparseCore.bigSep_insert' (by decide),
    SparseCore.bigSep_insert' (by decide), bigSep_singleton]

/-- @main's five arrays, one by one. -/
theorem unscopedBufs_eq (d : Dev nD) (W : (b : Ref sig .tc) → Buf (Elt F) ((d.tc : Thread nD τ).loc b)) :
    (unscopedBufs d W : sProp 𝕄) = iprop((rLoc d ↦{fullShare} W main_arg0) ∗ (tLoc d ↦{fullShare} W main_arg1) ∗ (bLoc d ↦{fullShare} W main_v0)
      ∗ (oLoc d ↦{fullShare} W main_v1) ∗ yLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the TensorCore's call; after the sequencers'. -/
def V0 (d : Dev nD) : Valuation τ sig (Elt F) := fun b => m (d, b)
/-- The buffers after the TensorCore call. -/
def V1 (d : Dev nD) : Valuation τ sig (Elt F) := Function.update (V0 m d) b' (bvM m d)
/-- The buffers after the SparseCore call. -/
def V2 (d : Dev nD) : Valuation τ sig (Elt F) := Function.update (V1 m d) o' (outV (bvM m d))

/-- After the TensorCore call, the band. -/
theorem V1_b (d : Dev nD) : V1 m d b' = bvM m d := Function.update_self _ _ _
/-- The TensorCore call changes nothing else. -/
theorem V1_ne (d : Dev nD) {b : DevRef τ sig} (h : b ≠ b') : V1 m d b = V0 m d b := Function.update_of_ne h _ _
/-- After the SparseCore call, its output. -/
theorem V2_o (d : Dev nD) : V2 m d o' = outV (bvM m d) := Function.update_self _ _ _
/-- The SparseCore call changes nothing else. -/
theorem V2_ne (d : Dev nD) {b : DevRef τ sig} (h : b ≠ o') : V2 m d b = V1 m d b := Function.update_of_ne h _ _

/-- The reshape touches two of the five buffers. -/
theorem hR : (opR (F := F)).bufs ⊆ S5 := show ({o', y'} : Finset (DevRef τ sig)) ⊆ S5 by decide

/-- The program's result: the reshape of the copied windows. -/
def yV (d : Dev nD) : Buf (Elt F) (yLoc d) := (opR (F := F)).result (V2 m d) y'

/-- What none of the three steps writes is as it was. -/
theorem res_ne (d : Dev nD) {b : DevRef τ sig} (h : b ∉ ({y'} : Finset (DevRef τ sig))) (h1 : b ≠ o') (h2 : b ≠ b') :
    (opR (F := F)).result (V2 m d) b = V0 m d b := by
  rw [(opR (F := F)).result_of_not_mem (V2 m d) h, V2_ne m d h1, V1_ne m d h2]

/-! ## What the sequencers' call takes and gives back -/

/-- A family over the two cores is its two members. -/
theorem cores_eq (Φ : Fin ((K (F := F)).nCore 0) → sProp 𝕄) : bigSep Finset.univ Φ = iprop(Φ (0 : Fin 2) ∗ Φ (1 : Fin 2)) := bigSep_W0 (M := 𝕄) Φ

/-- The band's share in halves and the result's rows in two: what the two sequencers take. -/
theorem st_in (d : Dev nD) (bv : Dev nD → S1024x128.Idx → Elt F .f32) (f : Buf (Elt F) (oLoc d)) :
    (iprop((bLoc d ↦{fullShare} bv d) ∗ oLoc d ↦{fullShare} f) : sProp 𝕄)
      ⊢ bigSep Finset.univ fun c : Fin ((K (F := F)).nCore 0) => (P bv).st 0 d c := by
  rw [cores_eq]
  change _ ⊢ (iprop(((bLoc d ↦{fullShare.left} bv d) ∗ ∃ f, oLoc d ↦[rows 0]{fullShare} f) ∗ ((bLoc d ↦{fullShare.right} bv d) ∗ ∃ f, oLoc d ↦[rows 1]{fullShare} f)) : sProp 𝕄)
  iintro ⟨Hb, Ho⟩
  ihave Hb := (pointsTo_share (PosShare.mem_left_op_right fullShare)).1 $$ Hb
  icases Hb with ⟨Hb0, Hb1⟩
  rw [← rows_union]
  ihave Ho := (pointsTo_union rows_disjoint).1 $$ Ho
  icases Ho with ⟨Ho0, Ho1⟩
  isplitl [Hb0 Ho0]
  · isplitl [Hb0]; · iexact Hb0
    iexists f; iexact Ho0
  · isplitl [Hb1]; · iexact Hb1
    iexists f; iexact Ho1

/-- What they give back, joined. -/
theorem dn_out (d : Dev nD) (bv : Dev nD → S1024x128.Idx → Elt F .f32) :
    (bigSep Finset.univ fun c : Fin ((K (F := F)).nCore 0) => (P bv).dn 0 d c)
      ⊢ (iprop((bLoc d ↦{fullShare} bv d) ∗ oLoc d ↦{fullShare} outV (bv d)) : sProp 𝕄) := by
  rw [cores_eq]
  change (iprop(((bLoc d ↦{fullShare.left} bv d) ∗ oLoc d ↦[rows 0]{fullShare} outV (bv d)) ∗ ((bLoc d ↦{fullShare.right} bv d) ∗ oLoc d ↦[rows 1]{fullShare} outV (bv d))) : sProp 𝕄) ⊢ _
  iintro ⟨⟨Hb0, Ho0⟩, Hb1, Ho1⟩
  isplitl [Hb0 Hb1]
  · iapply (pointsTo_share (PosShare.mem_left_op_right fullShare)).2
    isplitl [Hb0]; · iexact Hb0
    iexact Hb1
  · rw [← rows_union]
    iapply (pointsTo_union rows_disjoint).2
    isplitl [Ho0]; · iexact Ho0
    iexact Ho1

/-! ## @main on the TensorCore -/

/-- What @main leaves the claim: the arguments at their launch contents, the result at the reshape. -/
abbrev FIN (d : Dev nD) : sProp 𝕄 := iprop((rLoc d ↦{fullShare} m (rLoc d)) ∗ (tLoc d ↦{fullShare} m (tLoc d)) ∗ yLoc d ↦{fullShare} yV m d)

/-- The TensorCore's call, before it is lifted. -/
def tcCall : Prog (TpuEff nD τ sig (Elt F) (Pipeline.Sig Λ₀ (Fin 1) fun p => (pcfgs (F := F) p).Adm) .tc) PUnit :=
  .op (.customCall (Pipeline.entry 0) ()) fun _ => .ret ⟨⟩

/-- The TensorCore's call as a call of its own program, lifted. -/
theorem call_lifted :
    (Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
      = SparseCore.liftProg (Q := 1) tcCall := rfl

/-- The TensorCore's call: from the launch contents, the levels and the pipeline's rounds, to the band written. -/
theorem regionAt [∀ e, Nonempty (Elt F e)] (d : Dev nD) (Q : PUnit → sProp 𝕄) :
    iprop((iprop(boundary (SparseCore.T d) ∗ unscopedBufs d (fun b => V1 m d (Proc.devRef .tc b))
          ∗ ∃ W, ⌜(K (F := F)).WBelow (SparseCore.T d) W 0⌝ ∗ owes (SparseCore.T d) ((K (F := F)).Otc d 0) W) -∗ Q ⟨⟩)
        ∗ boundary (SparseCore.T d) ∗ unscopedBufs d (fun b => m ((SparseCore.T d).loc b))
        ∗ (∃ W, ⌜(K (F := F)).WBelow (SparseCore.T d) W 0⌝ ∗ owes (SparseCore.T d) ((K (F := F)).Otc d 0) W)
        ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  rw [call_lifted]
  have h0 := (K (F := F)).wp_liftProg (D (F := F)) 𝒱 (SparseCore.T d) Set.univ none (tcCall (F := F)) Q
  refine BI.Entails.trans ?_ h0
  have h := Pipeline.RegionSeg.wp (Q := Q) (k := fun _ => .ret ⟨⟩) (pcfgs (F := F)) adm (pdats fun c b => m ((SparseCore.T c).loc b)) none cell_inj (EP (F := F)) defs₀ 𝒱₀ (K (F := F)).L (K (F := F)).lev
    (reg (fun c b => m ((SparseCore.T c).loc b)) (fun c b => V1 m c (Proc.devRef .tc b)) (fun _ => iprop(emp)) (fun c => V1_b m c)
      (fun c b hb => V1_ne m c fun h => hb (Proc.devRef_injective _ h))) d none (fun _ h => nomatch h)
  unfold G
  refine BI.Entails.trans (?_ : _ ⊢ (iprop((iprop(boundary (SparseCore.T d) ∗ iprop(unscopedBufs d (fun b => V1 m d (Proc.devRef .tc b)) ∗ iprop(emp)
          ∗ ∃ W, ⌜(K (F := F)).WBelow (SparseCore.T d) W 0⌝ ∗ owes (SparseCore.T d) ((K (F := F)).Otc d 0) W))
        -∗ wp frame (wpE (D (F := F)) 𝒱 (SparseCore.T d) none) Set.univ (.ret ⟨⟩) Q)
      ∗ boundary (SparseCore.T d) ∗ iprop(unscopedBufs d (fun b => m ((SparseCore.T d).loc b)) ∗ iprop(emp)
          ∗ ∃ W, ⌜(K (F := F)).WBelow (SparseCore.T d) W 0⌝ ∗ owes (SparseCore.T d) ((K (F := F)).Otc d 0) W)
      ∗ levAts (K (F := F)).L (K (F := F)).lev ∗ Pipeline.cellsGhost (Pipeline.pin (pcfgs (F := F)) adm) (EP (F := F)) 0 d
      ∗ Pipeline.toksInit (Pipeline.pin (pcfgs (F := F)) adm) (EP (F := F)) 0 d) : sProp 𝕄)) h
  iintro ⟨Hk, Hb, Hu, HO, Hlev, Hg, Ht⟩
  isplitl [Hk]
  · iintro ⟨Hb, Hu, -, HO⟩
    rw [wp_ret]; imodintro
    iapply Hk
    isplitl [Hb]; · iexact Hb
    isplitl [Hu]; · iexact Hu
    iexact HO
  isplitl [Hb]; · iexact Hb
  isplitl [Hu HO]
  · isplitl [Hu]; · iexact Hu
    isplitr; · iempintro
    iexact HO
  isplitl [Hlev]; · iexact Hlev
  isplitl [Hg] <;> iassumption

/-- @main: the TensorCore call, the SparseCore call and the reshape, from the launch's resources to the final arrays. -/
theorem hmain [∀ e, Nonempty (Elt F e)] (κ : GSem nD τ sig → ℕ) (d : Dev nD) :
    iprop((K (F := F)).ctx EH (P (bvM m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hu, Hts, -⟩, HG⟩
  ihave Hlev := (SparseCore.Cfg.ctx_levAts κ) $$ Hctx
  ihave Hst' := (Entails.of_eq (show (K (F := F)).tcSt EH d 0 = iprop((∃ W, ⌜(K (F := F)).WBelow (SparseCore.T d) W 0⌝ ∗ owes (SparseCore.T d) ((K (F := F)).Otc d 0) W) ∗ _) from rfl)) $$ Hst
  icases Hst' with ⟨HO, Hrest⟩
  iapply (regionAt m d _)
  isplitr [Hb Hu HO Hlev HG]
  swap
  · isplitl [Hb]; · iexact Hb
    isplitl [Hu]; · iexact Hu
    isplitl [HO]; · iexact HO
    isplitl [Hlev]; · iexact Hlev
    iexact HG
  iintro ⟨Hb, Hu, HO⟩
  ihave Hh := (Entails.of_eq (unscopedBufs_eq (F := F) d _)) $$ Hu
  icases Hh with ⟨Hr, Ht, Hbd, Ho, Hy⟩
  -- the sequencers' call
  iapply ((K (F := F)).wp_run (D (F := F)) 𝒱 (EH := EH) (P := P (bvM m)) κ d 0)
  isplitr; · iexact Hctx
  isplitl [HO Hrest]
  · iapply (Entails.of_eq (show iprop((∃ W, ⌜(K (F := F)).WBelow (SparseCore.T d) W 0⌝ ∗ owes (SparseCore.T d) ((K (F := F)).Otc d 0) W) ∗ _) = (K (F := F)).tcSt EH d 0 from rfl))
    isplitl [HO] <;> iassumption
  isplitl [Hbd Ho]
  · iapply (st_in d (bvM m) _)
    isplitl [Hbd]; · rw [V1_b]; iexact Hbd
    iexact Ho
  iintro ⟨Hst, Hdn⟩
  ihave Hdn' := (dn_out d (bvM m)) $$ Hdn
  icases Hdn' with ⟨Hbd, Ho⟩
  -- the reshape
  iapply (wp_hlo_within 𝒱 (SparseCore.T d) none Set.univ (op := opR) (S := S5) hR (V := V2 m d)) $$ [Hb Hr Ht Hbd Ho Hy]
  · isplitl [Hb]; · iexact Hb
    rw [held_S5, V2_o, V2_ne m d (b := r') (by decide), V2_ne m d (b := t') (by decide), V2_ne m d (b := b') (by decide), V2_ne m d (b := y') (by decide), V1_b]
    isplitl [Hr]; · iexact Hr
    isplitl [Ht]; · iexact Ht
    isplitl [Hbd]; · iexact Hbd
    isplitl [Ho]; · iexact Ho
    iexact Hy
  iintro ⟨Hb, Hheld⟩
  ihave Hh := (Entails.of_eq (held_S5 (F := F) d _)) $$ Hheld
  icases Hh with ⟨Hr, Ht, -, -, Hy⟩
  rw [res_ne m d (b := r') (by decide) (by decide) (by decide), res_ne m d (b := t') (by decide) (by decide) (by decide)]
  rw [wp_ret]; imodintro; imodintro
  isplitl [Hst]; · iexact Hst
  isplitr [Hb Hts]
  · isplitl [Hr]; · iexact Hr
    isplitl [Ht]; · iexact Ht
    iexact Hy
  isplitl [Hb] <;> iassumption

/-! ## The program's run -/

/-- What a device's memory holds at the end. -/
def fq (d : Dev nD) (s' : Phys nD τ sig (Elt F)) : Prop :=
  s'.mem.mem (rLoc d) = m (rLoc d) ∧ s'.mem.mem (tLoc d) = m (tLoc d) ∧ s'.mem.mem (yLoc d) = yV m d

/-- A buffer held whole agrees with the memory. -/
theorem agree (s' : Phys nD τ sig (Elt F)) (ℓ : Loc nD τ sig) (f : Buf (Elt F) ℓ) :
    (iprop((ℓ ↦{fullShare} f) ∗ SI s') : sProp 𝕄) ⊢ ⌜s'.mem.mem ℓ = f⌝ := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- The arrays held at the end determine the memory. -/
theorem hfin (d : Dev nD) (s' : Phys nD τ sig (Elt F)) : iprop(FIN m d ∗ SI s') ⊢ (⌜fq m d s'⌝ : sProp 𝕄) := by
  refine Laws.pure_elim _ ((sep_mono_left sep_elim_left).trans (agree s' (rLoc d) _)) fun hr => ?_
  refine Laws.pure_elim _ ((sep_mono_left (sep_elim_right.trans sep_elim_left)).trans (agree s' (tLoc d) _)) fun ht => ?_
  refine Laws.pure_elim _ ((sep_mono_left (sep_elim_right.trans sep_elim_right)).trans (agree s' (yLoc d) _)) fun hy => ?_
  exact Laws.pure_intro ⟨hr, ht, hy⟩

/-- Every run ends with the arguments as they were, the result at the reshaped windows and every semaphore at zero. -/
theorem run_main [∀ e, Nonempty (Elt F e)] : θ_run (Cert.KernelIdeal.defs (F := F)) (Cert.KernelIdeal.threads (F := F)) ⟨m, fun _ => 0, ρ⟩
    (fun r => (∀ c : Dev nD, r.2.mem (rLoc c) = m (rLoc c) ∧ r.2.mem (tLoc c) = m (tLoc c) ∧ r.2.mem (yLoc c) = yV m c) ∧ r.2.sem = fun _ => 0) :=
  SparseCore.Cfg.θ_run_sc_quiescent (K := K (F := F)) (D := D (F := F)) (𝒱 := 𝒱) (EH := EH) (P := P (bvM m)) (A := ∅) facts v₀
    (fun q _ => match q with | 0 => scalarObl (bvM m))
    (fun q hq => match q with | 0 => nomatch hq)
    (fun q hq => match q with | 0 => nomatch hq)
    m ρ main G (FIN m) (u₀ (F := F)) (sep_elim_left.trans (hu₀ (bvM m))) (hmain m ρ) (fq m) (hfin m) _ (fun _ h hz => ⟨h, hz⟩)

end Cert.Proof.Seq
end
-- ==== Proof.Ref.lean ====
/-
  The reference's result read at an index, over any floats: the clipped difference of two residue numbers as a row of the
  table, and, where the residues are numbered consecutively, the row the band holds.
-/
module

public import proofs.«01_k».proof.Proof.Band
public import proofs.«01_k».proof.Proof.Gen.ReferenceIdeal.Run
public import proofs.«01_k».proof.Proof.Gen.Pre_consecutive
public import Idealize.ShloMosaic.Lib.ReduceAll
public import Idealize.ShloMosaic.Lib.WordCmp
public import Idealize.ShloMosaic.Lib.Pointwise

@[expose] public section

noncomputable section

namespace Cert.Proof.Ref

open Cert.ReferenceIdeal Cert.ReferenceIdeal.Gen
open Idealize.ShloMosaic
open Idealize.ShloMosaic.Tactic
open Cert.Proof.Seq (bandRow bandRow_lt idx_word)

variable {F : FTy → Type} [FloatOps F]

/-! ## The reference's two halves -/

/-- A word in every place of the reference's index grid. -/
abbrev splat (w : BitVec 32) : IVec S2x512x512 32 := broadcastInDim S2x512x512 ![] bcast_S_S2x512x512 (constantI S_ 32 w)

/-- The rows the reference looks up: the clipped differences, shifted into the table. -/
def rowsOf (res : IVec S2x512 32) : IVec S2x512x512 32 :=
  addi (addi (minsi (broadcastInDim S2x512x512 ![] bcast_S_S2x512x512 (id (constantI S_ 32 32#32)))
    (maxsi (broadcastInDim S2x512x512 ![] bcast_S_S2x512x512 (id (constantI S_ 32 4294967264#32)))
      (subi (broadcastInDim S2x512x512 ![0, 1, 2] bcast_S2x1x512_S2x512x512_0_1_2 (broadcastInDim S2x1x512 ![0, 2] bcast_S2x512_S2x1x512_0_2 res))
        (broadcastInDim S2x512x512 ![0, 1, 2] bcast_S2x512x1_S2x512x512_0_1_2 (broadcastInDim S2x512x1 ![0, 1] bcast_S2x512_S2x512x1_0_1 res)))))
    (splat 32#32)) (splat 1#32)

/-- A row number counted from the table's end when it is negative, as the start indices of the lookup. -/
def wrapOf (ix : IVec S2x512x512 32) : IVec S2x512x512x1 32 :=
  broadcastInDim S2x512x512x1 ![0, 1, 2] bcast_S2x512x512_S2x512x512x1_0_1_2 (select (cmpi .slt ix (splat 0#32)) (addi ix (splat 66#32)) ix)

/-- The lookup's check that a row number lies in the table. -/
def inRange (st : IVec S2x512x512x1 32) : IVec S2x512x512x1 1 :=
  andi (cmpi .sge st (broadcastInDim S2x512x512x1 ![] bcast_S_S2x512x512x1 (constantI S_ 32 0#32)))
    (cmpi .sle st (broadcastInDim S2x512x512x1 ![0, 1, 2, 3] bcast_S1x1x1x1_S2x512x512x1_0_1_2_3 (broadcastInDim S1x1x1x1 ![3] bcast_S1_S1x1x1x1_3 (constantI S1 32 65#32))))

/-- The lookup: the table's rows at the start indices, where the check passes. -/
def lookup (tab : FVec F S66x128 .f32) (st : IVec S2x512x512x1 32) : FVec F S2x512x512x128 .f32 :=
  select (broadcastInDim S2x512x512x128 ![0, 1, 2] bcast_S2x512x512_S2x512x512x128_0_1_2
      (Host.reduce IntOp.andi (inRange st) (constantI S_ 1 1#1) reducesTo_S2x512x512x1_S2x512x512_d3 h_S_))
    (Host.gather gather_S66x128_S2x512x512x1_S2x512x512x128_3_0_n_n_0_3_1128 tab st)
    (broadcastInDim S2x512x512x128 ![] bcast_S_S2x512x512x128 (constant S_ .f32 0x7FC00000#32))

set_option maxRecDepth 8192 in
/-- The reference's result is the lookup at its rows. -/
theorem res_eq (m : (ℓ : Loc nD τ sig) → Buf (Elt F) ℓ) (c : Dev nD) :
    Cert.ReferenceIdeal.Value.res_main_v10 m c
      = lookup (F := F) (m ((c.tc : Thread nD τ).loc main_arg1)) (wrapOf (rowsOf (m ((c.tc : Thread nD τ).loc main_arg0)))) := rfl

/-! ## The lookup at an index -/

/-- The start index of result index `y`. -/
abbrev stIdx (y : S2x512x512x128.Idx) : S2x512x512x1.Idx := ix4 (n0 := 2) (n1 := 512) (n2 := 512) (n3 := 1) (y 0) (y 1) (y 2) ⟨0, Nat.one_pos⟩

/-- The gather's dimension numbers. -/
abbrev lookDims : GatherDims S66x128 S2x512x512x1 S2x512x512x128 := gather_S66x128_S2x512x512x1_S2x512x512x128_3_0_n_n_0_3_1128

/-- The gather at an index: the table's row at the start index, clamped into the table, at the result's lane. -/
theorem gather_at (tab : FVec F S66x128 .f32) (st : IVec S2x512x512x1 32) (y : S2x512x512x128.Idx) :
    Host.gather gather_S66x128_S2x512x512x1_S2x512x512x128_3_0_n_n_0_3_1128 tab st y
      = tab (ix2 (n0 := 66) (n1 := 128) ⟨min (st (stIdx y)).toInt.toNat 65, by omega⟩ (y 3)) := by
  unfold Host.gather
  congr 1
  funext a
  refine Fin.ext ?_
  show lookDims.start y st a + lookDims.batchCoord y a + lookDims.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ lookDims.startIndexMap from List.mem_singleton.mpr rfl)]
    have hsi : lookDims.siIdx y ⟨List.idxOf (0 : Fin 2) lookDims.startIndexMap, List.idxOf_lt_length_iff.2 (List.mem_singleton.mpr rfl)⟩ = stIdx y := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (show (1 : Fin 2) ∉ lookDims.startIndexMap by decide), Nat.zero_add]
    rfl

/-- A table row's word: not negative, in the table, and clamped to itself. -/
theorem row_word : ∀ n : Fin 66,
    Scalar.select (IntOp.cmpi .slt (BitVec.ofNat 32 n.val) 0#32) (IntOp.addi (BitVec.ofNat 32 n.val) 66#32) (BitVec.ofNat 32 n.val) = BitVec.ofNat 32 n.val
    ∧ IntOp.andi (IntOp.cmpi .sge (BitVec.ofNat 32 n.val) 0#32) (IntOp.cmpi .sle (BitVec.ofNat 32 n.val) 65#32) = 1#1
    ∧ min (BitVec.ofNat 32 n.val).toInt.toNat 65 = n.val := by decide +kernel

/-- The lookup at rows that lie in the table reads them. -/
theorem lookup_at (tab : FVec F S66x128 .f32) (ix : IVec S2x512x512 32) (k : S2x512x512.Idx → Nat) (hk : ∀ x, k x < 66)
    (hix : ∀ x, ix x = BitVec.ofNat 32 (k x)) (y : S2x512x512x128.Idx) :
    lookup tab (wrapOf ix) y = tab (ix2 (n0 := 66) (n1 := 128) ⟨k (ix3 (n0 := 2) (n1 := 512) (n2 := 512) (y 0) (y 1) (y 2)), hk _⟩ (y 3)) := by
  have hw : ∀ z : S2x512x512x1.Idx, wrapOf ix z = BitVec.ofNat 32 (k (ix3 (n0 := 2) (n1 := 512) (n2 := 512) (z 0) (z 1) (z 2))) := by
    intro z
    pointwise [wrapOf]
    rw [hix]
    exact (row_word ⟨_, hk _⟩).1
  have hr : ∀ z, inRange (wrapOf ix) z = 1#1 := by
    intro z
    have h := (row_word ⟨_, hk (ix3 (n0 := 2) (n1 := 512) (n2 := 512) (z 0) (z 1) (z 2))⟩).2.1
    rw [← hw z] at h
    exact h
  unfold lookup
  have hb : broadcastInDim S2x512x512x128 ![0, 1, 2] bcast_S2x512x512_S2x512x512x128_0_1_2
      (Host.reduce IntOp.andi (inRange (wrapOf ix)) (constantI S_ 1 1#1) reducesTo_S2x512x512x1_S2x512x512_d3 h_S_) y = 1#1 :=
    Host.reduce_andi_one (inRange (wrapOf ix)) (constantI S_ 1 1#1) reducesTo_S2x512x512x1_S2x512x512_d3 h_S_ _ rfl hr
  refine (WordCmp.select_of_eq_one hb _ _).trans ?_
  refine (gather_at tab (wrapOf ix) y).trans ?_
  have h := (row_word ⟨_, hk (ix3 (n0 := 2) (n1 := 512) (n2 := 512) (y 0) (y 1) (y 2))⟩).2.2
  have hs : wrapOf ix (stIdx y) = BitVec.ofNat 32 (k (ix3 (n0 := 2) (n1 := 512) (n2 := 512) (y 0) (y 1) (y 2))) := hw (stIdx y)
  exact congrArg (fun r : Fin 66 => tab (ix2 (n0 := 66) (n1 := 128) r (y 3)))
    (Fin.ext ((congrArg (fun w : BitVec 32 => min w.toInt.toNat 65) hs).trans h))

/-! ## The rows, where the residues are consecutive -/

/-- What the precondition says of one residue number. -/
theorem consec_at (res : IVec S2x512 32) (tab : FVec F S66x128 .f32) (h : Cert.Pre_consecutive.fn (F := F) res tab = fun _ => 1#1)
    (x : S2x512.Idx) : res x = IntOp.addi (res (ix2 (n0 := 2) (n1 := 512) (x 0) ⟨0, by decide⟩)) (BitVec.ofNat 32 (x 1).val) := by
  have h0 := congrFun h ix0
  dsimp only [Cert.Pre_consecutive.fn] at h0
  have h1 := Host.reduce_andi_all _ _ _ _ _ h0 x
  have h2 := IntOp.cmpi_eq.1 h1
  refine h2.trans ?_
  pointwise []

/-- A difference of consecutive residue numbers, as the band's row of it. -/
theorem word_eq (b : BitVec 32) (i j : Fin 512) :
    IntOp.addi (IntOp.addi (IntOp.minsi (32#32) (IntOp.maxsi (4294967264#32)
      (IntOp.subi (IntOp.addi b (BitVec.ofNat 32 j.val)) (IntOp.addi b (BitVec.ofNat 32 i.val))))) 32#32) 1#32
    = BitVec.ofNat 32 (bandRow (511 - i.val + j.val)) := by
  rw [← idx_word ⟨511 - i.val + j.val, by omega⟩]
  have hi : BitVec.ofNat 32 (511 - i.val) = 511#32 - BitVec.ofNat 32 i.val := by
    have := i.isLt
    apply BitVec.eq_of_toNat_eq
    simp only [BitVec.toNat_sub, BitVec.toNat_ofNat]; omega
  have hd : IntOp.subi (IntOp.addi b (BitVec.ofNat 32 j.val)) (IntOp.addi b (BitVec.ofNat 32 i.val))
      = IntOp.subi (BitVec.ofNat 32 (511 - i.val + j.val)) 511#32 := by
    rw [BitVec.ofNat_add, hi]
    show (b + BitVec.ofNat 32 j.val) - (b + BitVec.ofNat 32 i.val) = (511#32 - BitVec.ofNat 32 i.val + BitVec.ofNat 32 j.val) - 511#32
    generalize BitVec.ofNat 32 j.val = J
    generalize BitVec.ofNat 32 i.val = I
    apply BitVec.eq_of_toNat_eq
    simp only [BitVec.toNat_sub, BitVec.toNat_add, BitVec.toNat_ofNat]; omega
  rw [hd]
  show _ + 32#32 + 1#32 = _ + 33#32
  rw [BitVec.add_assoc]; rfl

/-- The reference's rows are the band's. -/
theorem rows_at (res : IVec S2x512 32) (hc : ∀ x : S2x512.Idx, res x = IntOp.addi (res (ix2 (n0 := 2) (n1 := 512) (x 0) ⟨0, by decide⟩)) (BitVec.ofNat 32 (x 1).val))
    (x : S2x512x512.Idx) : rowsOf res x = BitVec.ofNat 32 (bandRow (511 - (x 1).val + (x 2).val)) := by
  have h1 : rowsOf res x = IntOp.addi (IntOp.addi (IntOp.minsi (32#32) (IntOp.maxsi (4294967264#32)
      (IntOp.subi (res (ix2 (n0 := 2) (n1 := 512) (x 0) (x 2))) (res (ix2 (n0 := 2) (n1 := 512) (x 0) (x 1)))))) 32#32) 1#32 := by
    pointwise [rowsOf]
    rfl
  rw [h1, hc (ix2 (x 0) (x 2)), hc (ix2 (x 0) (x 1))]
  exact word_eq _ (x 1) (x 2)

/-- The reference's result at an index, the residues consecutive: the table's row the band holds at `511 - i + j`. -/
theorem ref_at (res : IVec S2x512 32) (tab : FVec F S66x128 .f32) (h : Cert.Pre_consecutive.fn (F := F) res tab = fun _ => 1#1)
    (y : S2x512x512x128.Idx) :
    lookup tab (wrapOf (rowsOf res)) y = tab (ix2 (n0 := 66) (n1 := 128) ⟨bandRow (511 - (y 1).val + (y 2).val), bandRow_lt _⟩ (y 3)) :=
  lookup_at tab (rowsOf res) (fun x => bandRow (511 - (x 1).val + (x 2).val)) (fun _ => bandRow_lt _) (rows_at res (consec_at res tab h)) y

end Cert.Proof.Ref
end
-- ==== Proof.Value.lean ====
/-
  The kernel's result read at an index, over any floats, and its equality with the reference's where the residues are numbered
  consecutively.
-/
module

public import proofs.«01_k».proof.Proof.Run
public import proofs.«01_k».proof.Proof.Ref

@[expose] public section

noncomputable section

namespace Cert.Proof.Seq

open Cert.KernelIdeal Cert.KernelIdeal.Gen
open Idealize.ShloMosaic
open Idealize.ShloMosaic.Tactic
open Idealize.ShloMosaic.SparseCore (S V T)

variable {F : FTy → Type} [FloatOps F]

variable (m : (ℓ : Loc nD τ sig) → Buf (Elt F) ℓ)

/-- The kernel's result as an array: the copied windows, reshaped. -/
theorem yV_eq (d : Dev nD) : yV m d = shapeCast S2x512x512x128 (outV (bvM m d)) shapeCasts_S1024x512x128_S2x512x512x128 := by
  refine (StableHlo.reshape_result main_v1 main_v2 _ _ _ _ (V2 m d)).trans ?_
  exact congrArg (fun f => shapeCast S2x512x512x128 f shapeCasts_S1024x512x128_S2x512x512x128) (V2_o m d)

/-- The kernel's result at an index: the table's row the band holds at `511 - i + j`. -/
theorem out_at (tab : S66x128.Idx → Elt F .f32) (y : S2x512x512x128.Idx) :
    shapeCast S2x512x512x128 (outV (bandV tab)) shapeCasts_S1024x512x128_S2x512x512x128 y
      = tab (ix2 (n0 := 66) (n1 := 128) ⟨bandRow (511 - (y 1).val + (y 2).val), bandRow_lt _⟩ (y 3)) := by
  pointwise []
  have h1 : (y 1).val < 512 := (y 1).isLt
  have hr : 511 - ((y 0).val * 512 + (y 1).val) % 512 + (y 2).val = 511 - (y 1).val + (y 2).val := by omega
  exact congrArg (fun r : Fin 66 => tab (ix2 (n0 := 66) (n1 := 128) r (y 3))) (Fin.ext (congrArg bandRow hr))

/-- Where the residues are consecutive, the kernel's result is the reference's lookup. -/
theorem value_eq (d : Dev nD) (h : Cert.Pre_consecutive.fn (F := F) (m (rLoc d)) (m (tLoc d)) = fun _ => 1#1) :
    yV m d = Ref.lookup (F := F) (m (tLoc d)) (Ref.wrapOf (Ref.rowsOf (m (rLoc d)))) := by
  rw [yV_eq]
  funext y
  exact (out_at (m (tLoc d)) y).trans (Ref.ref_at (m (rLoc d)) (m (tLoc d)) h y).symm

end Cert.Proof.Seq
end
-- ==== Proof.Same.lean ====
/-
  The kernel and its idealization have one text: at the bit patterns the two tables of procedures are equal, so the run of the one
  is the run of the other.
-/
module

public import proofs.«01_k».proof.Defs
public import proofs.«01_k».proof.Proof.Gen.Kernel
public import proofs.«01_k».proof.Proof.Run

@[expose] public section

noncomputable section

namespace Cert.Proof.Seq

open Idealize.ShloMosaic Idealize.SL.Sem

/-- The two programs' bodies agree, at every core and every label. -/
theorem bodies_same : Cert.Kernel.defs₀ (F := Bits) = Cert.KernelIdeal.defs₀ (F := Bits) := by
  funext pr ℓ a
  match pr, ℓ, a with
  | .tc, 0, _ => rfl
  | .tc, 1, _ => rfl
  | .scScalar _, 0, _ => rfl
  | .scScalar _, 1, _ => rfl
  | .scVector _ _, 0, _ => rfl
  | .scVector _ _, 1, _ => rfl

/-- So do their tables of procedures, the pipeline's and the launch's procedures included. -/
theorem defs_same : Cert.Kernel.defs (F := Bits) = Cert.KernelIdeal.defs (F := Bits) := by
  unfold Cert.Kernel.defs
  rw [bodies_same]
  rfl

/-- What every run of the kernel at the bit patterns ends in: the arguments kept, the result the band's windows, every semaphore zero. -/
theorem run_kernel (m : (ℓ : Loc Cert.KernelIdeal.nD Cert.KernelIdeal.τ Cert.KernelIdeal.sig) → Buf (Elt Bits) ℓ)
    (ρ : Dev Cert.KernelIdeal.nD → PrngReg) :
    θ_run (Cert.Kernel.defs (F := Bits)) Cert.Kernel.threads ⟨m, fun _ => 0, ρ⟩
      (fun r => (∀ c, r.2.mem (rLoc c) = m (rLoc c) ∧ r.2.mem (tLoc c) = m (tLoc c) ∧ r.2.mem (yLoc c) = yV m c) ∧ r.2.sem = fun _ => 0) := by
  rw [defs_same]
  exact run_main (F := Bits) m ρ

end Cert.Proof.Seq

end
-- ==== Proof.lean ====
/-
  The relative position embedding's claims: the kernel's two frames from one run over any floats (Proof/Run.lean), the references'
  from their generated runs, and the two value claims from the results' equality (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Reference
public import proofs.«01_k».proof.Proof.Gen.Pre_consecutive
public import proofs.«01_k».proof.Proof.Gen.ReferenceIdeal.Run
public import proofs.«01_k».proof.Proof.Gen.Reference.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- Every run of the kernel keeps the arguments and returns every semaphore to zero. -/
theorem frame_kernel : Cert.quiescent_Kernel := fun m ρ _ =>
  (θ_run Cert.Kernel.defs _ _).mono (fun _ h => ⟨fun c => ⟨(h.1 c).1, (h.1 c).2.1⟩, h.2⟩) (Seq.run_kernel m ρ)

/-- So does every run where the residues are consecutive. -/
theorem frame_kernel_pre : Cert.quiescent_Kernel_pre_consecutive := fun m ρ _ => frame_kernel m ρ trivial

/-- The same of the kernel read at the ideal instance. -/
theorem frame_ideal : Cert.quiescent_KernelIdeal := fun m ρ _ =>
  (θ_run Cert.KernelIdeal.defs _ _).mono (fun _ h => ⟨fun c => ⟨(h.1 c).1, (h.1 c).2.1⟩, h.2⟩) (Seq.run_main (F := Ideal) m ρ)

/-- So does every such run where the residues are consecutive. -/
theorem frame_ideal_pre : Cert.quiescent_KernelIdeal_pre_consecutive := fun m ρ _ => frame_ideal m ρ trivial

/-- Every run of the idealized reference keeps its arguments; it has no semaphore. -/
theorem frame_refIdeal : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- So does every such run where the residues are consecutive. -/
theorem frame_refIdeal_pre : Cert.quiescent_ReferenceIdeal_pre_consecutive := fun m ρ _ => frame_refIdeal m ρ trivial

/-- Every run of the reference keeps its arguments; it has no semaphore. -/
theorem frame_ref : Cert.quiescent_Reference := fun m ρ _ =>
  (θ_run Cert.Reference.defs _ _).mono (fun r h => ⟨fun c => (h c).2, sem_eq_zero_of_no_sems rfl r.2⟩) (Cert.Reference.Value.run (F := Bits) m ρ)

/-- The kernel's result over the extended reals is the reference's, the residues consecutive. -/
theorem value_ideal : Cert.algebraic_KernelIdeal_ReferenceIdeal_pre_consecutive := fun m ρ m' ρ' hpre hargs =>
  ⟨fun c => Seq.yV (F := Ideal) m c,
    (θ_run Cert.KernelIdeal.defs _ _).mono (fun _ h c => ⟨(h.1 c).2.2, (h.1 c).1, (h.1 c).2.1⟩) (Seq.run_main (F := Ideal) m ρ),
    (θ_run Cert.ReferenceIdeal.defs _ _).mono (fun _ h c => ⟨(h c).1.trans (by
        refine (Ref.res_eq m' c).trans ?_
        rw [(hargs c).1, (hargs c).2]
        exact (Seq.value_eq (F := Ideal) m c (hpre c)).symm), (h c).2⟩) (Cert.ReferenceIdeal.Value.run (F := Ideal) m' ρ')⟩

set_option maxRecDepth 8192 in
/-- The reference's result, at the bit patterns, is the same lookup. -/
theorem res_bits (m : (ℓ : Loc Cert.Reference.nD Cert.Reference.τ Cert.Reference.sig) → Buf (Elt Bits) ℓ) (c : Dev Cert.Reference.nD) :
    Cert.Reference.Value.res_main_v10 m c
      = Ref.lookup (F := Bits) (m ((c.tc : Thread Cert.Reference.nD Cert.Reference.τ).loc Cert.Reference.main_arg1))
          (Ref.wrapOf (Ref.rowsOf (m ((c.tc : Thread Cert.Reference.nD Cert.Reference.τ).loc Cert.Reference.main_arg0)))) := rfl

/-- The kernel's result is the reference's bit for bit, the residues consecutive. -/
theorem value_bits : Cert.bitexact_Kernel_Reference_pre_consecutive := fun m ρ m' ρ' hpre hargs =>
  ⟨fun c => Seq.yV (F := Bits) m c,
    (θ_run Cert.Kernel.defs _ _).mono (fun _ h c => ⟨(h.1 c).2.2, (h.1 c).1, (h.1 c).2.1⟩) (Seq.run_kernel m ρ),
    (θ_run Cert.Reference.defs _ _).mono (fun _ h c => ⟨(h c).1.trans (by
        refine (res_bits m' c).trans ?_
        rw [(hargs c).1, (hargs c).2]
        exact (Seq.value_eq (F := Bits) m c (hpre c)).symm), (h c).2⟩) (Cert.Reference.Value.run (F := Bits) m' ρ')⟩

/-- Every claim of this certificate. -/
theorem claim : Cert.Claim := ⟨Cert.Kernel.Gen.facts, Cert.KernelIdeal.Gen.facts, Cert.ReferenceIdeal.Gen.facts, Cert.Reference.Gen.facts, Cert.Pre_consecutive.Gen.facts,
  frame_kernel, frame_kernel_pre, frame_ideal, frame_ideal_pre, frame_refIdeal, frame_refIdeal_pre, frame_ref, trivial, value_ideal, value_bits⟩

end Cert.Proof

end
